-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.PackStatement Cert.KernelIdeal.S256x128
  ∧ IdealRules.bf16_pair.Statement Cert.KernelIdeal.S256x2x128 Cert.KernelIdeal.S256x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_3)) (v4 : (c : Dev Cert.KernelIdeal.nD) → Buf (Elt Ideal) ((c.tc : Thread Cert.KernelIdeal.nD Cert.KernelIdeal.τ).loc Cert.KernelIdeal.main_v17_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_3) = v3 c
          ∧ r.2.mem ((c.tc : Thread Cert.KernelIdeal.nD Cert.KernelIdeal.τ).loc Cert.KernelIdeal.main_v17_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16_0) = v0 c
          ∧ r.2.mem ((c.tc : Thread Cert.ReferenceIdeal.nD Cert.ReferenceIdeal.τ).loc Cert.ReferenceIdeal.main_v16_1) = v1 c
          ∧ r.2.mem ((c.tc : Thread Cert.ReferenceIdeal.nD Cert.ReferenceIdeal.τ).loc Cert.ReferenceIdeal.main_v16_2) = v2 c
          ∧ r.2.mem ((c.tc : Thread Cert.ReferenceIdeal.nD Cert.ReferenceIdeal.τ).loc Cert.ReferenceIdeal.main_v16_3) = v3 c
          ∧ r.2.mem ((c.tc : Thread Cert.ReferenceIdeal.nD Cert.ReferenceIdeal.τ).loc Cert.ReferenceIdeal.main_v16_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x4096 : Shape := ⟨3, ![4, 384, 4096]⟩
abbrev S4096 : Shape := ⟨1, ![4096]⟩
abbrev S4x384 : Shape := ⟨2, ![4, 384]⟩
abbrev S4096x3072 : Shape := ⟨2, ![4096, 3072]⟩
abbrev S3072 : Shape := ⟨1, ![3072]⟩
abbrev S64 : Shape := ⟨1, ![64]⟩
abbrev S_ : Shape := ⟨0, ![]⟩
abbrev S128 : Shape := ⟨1, ![128]⟩
abbrev S1x128 : Shape := ⟨2, ![1, 128]⟩
abbrev S1536x4096 : Shape := ⟨2, ![1536, 4096]⟩
abbrev S1x4096 : Shape := ⟨2, ![1, 4096]⟩
abbrev S1536x1 : Shape := ⟨2, ![1536, 1]⟩
abbrev S1x3072 : Shape := ⟨2, ![1, 3072]⟩
abbrev S24576x128 : Shape := ⟨2, ![24576, 128]⟩
abbrev S6144x128 : Shape := ⟨2, ![6144, 128]⟩
abbrev S256x4096 : Shape := ⟨2, ![256, 4096]⟩
abbrev S256x1 : Shape := ⟨2, ![256, 1]⟩
abbrev S4096x128 : Shape := ⟨2, ![4096, 128]⟩
abbrev S1024x128 : Shape := ⟨2, ![1024, 128]⟩
abbrev S256 : Shape := ⟨1, ![256]⟩
abbrev S256x128 : Shape := ⟨2, ![256, 128]⟩
abbrev S4096x512 : Shape := ⟨2, ![4096, 512]⟩
abbrev S256x512 : Shape := ⟨2, ![256, 512]⟩
abbrev S1x512 : Shape := ⟨2, ![1, 512]⟩
abbrev S2048x128 : Shape := ⟨2, ![2048, 128]⟩
abbrev S2048x2x128 : Shape := ⟨3, ![2048, 2, 128]⟩
abbrev S256x2x128 : Shape := ⟨3, ![256, 2, 128]⟩
abbrev S256x1x128 : Shape := ⟨3, ![256, 1, 128]⟩
abbrev S512x128 : Shape := ⟨2, ![512, 128]⟩
abbrev S512x2x128 : Shape := ⟨3, ![512, 2, 128]⟩

abbrev nBuf : Space → Nat
  | .hbm => 32
  | .vmem => 18
  | .smem => 0
  | _ => 0

abbrev bufTy : (tb : Table) → Fin (tcTables nBuf tb) → BufTy
  | .hbm, ⟨0, _⟩ => ⟨S4x384x4096, .bf16⟩
  | .hbm, ⟨1, _⟩ => ⟨S4096, .f32⟩
  | .hbm, ⟨2, _⟩ => ⟨S4x384, .i32⟩
  | .hbm, ⟨3, _⟩ => ⟨S4096x3072, .fp8e4m3⟩
  | .hbm, ⟨4, _⟩ => ⟨S3072, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S128, .f32⟩
  | .hbm, ⟨22, _⟩ => ⟨S1x128, .f32⟩
  | .hbm, ⟨23, _⟩ => ⟨S1536x4096, .bf16⟩
  | .hbm, ⟨24, _⟩ => ⟨S1x4096, .f32⟩
  | .hbm, ⟨25, _⟩ => ⟨S1536x1, .i32⟩
  | .hbm, ⟨26, _⟩ => ⟨S1x3072, .f32⟩
  | .hbm, ⟨27, _⟩ => ⟨S24576x128, .bf16⟩
  | .hbm, ⟨28, _⟩ => ⟨S6144x128, .bf16⟩
  | .hbm, ⟨29, _⟩ => ⟨S6144x128, .bf16⟩
  | .hbm, ⟨30, _⟩ => ⟨S1536x4096, .fp8e4m3⟩
  | .hbm, ⟨31, _⟩ => ⟨S1536x1, .f32⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S256x1, .i32⟩
  | .local _ .vmem, ⟨4, _⟩ => ⟨S256x1, .i32⟩
  | .local _ .vmem, ⟨5, _⟩ => ⟨S1x128, .f32⟩
  | .local _ .vmem, ⟨6, _⟩ => ⟨S4096x3072, .fp8e4m3⟩
  | .local _ .vmem, ⟨7, _⟩ => ⟨S1x3072, .f32⟩
  | .local _ .vmem, ⟨8, _⟩ => ⟨S4096x128, .bf16⟩
  | .local _ .vmem, ⟨9, _⟩ => ⟨S4096x128, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S256x4096, .fp8e4m3⟩
  | .local _ .vmem, ⟨15, _⟩ => ⟨S256x4096, .fp8e4m3⟩
  | .local _ .vmem, ⟨16, _⟩ => ⟨S256x1, .f32⟩
  | .local _ .vmem, ⟨17, _⟩ => ⟨S256x1, .f32⟩
  | _, _ => ⟨S4x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev main_v17_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [BitOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F]
-- ==== ReferenceIdeal.lean ====
abbrev S4x384x4096 : Shape := ⟨3, ![4, 384, 4096]⟩
abbrev S4096 : Shape := ⟨1, ![4096]⟩
abbrev S4x384 : Shape := ⟨2, ![4, 384]⟩
abbrev S4096x3072 : Shape := ⟨2, ![4096, 3072]⟩
abbrev S3072 : Shape := ⟨1, ![3072]⟩
abbrev S64 : Shape := ⟨1, ![64]⟩
abbrev S_ : Shape := ⟨0, ![]⟩
abbrev S1536x4096 : Shape := ⟨2, ![1536, 4096]⟩
abbrev S1x4096 : Shape := ⟨2, ![1, 4096]⟩
abbrev S1536x1 : Shape := ⟨2, ![1536, 1]⟩
abbrev S1x64 : Shape := ⟨2, ![1, 64]⟩
abbrev S1x3072 : Shape := ⟨2, ![1, 3072]⟩
abbrev S24576x128 : Shape := ⟨2, ![24576, 128]⟩
abbrev S6144x128 : Shape := ⟨2, ![6144, 128]⟩
abbrev S1536 : Shape := ⟨1, ![1536]⟩
abbrev S1536x3072 : Shape := ⟨2, ![1536, 3072]⟩
abbrev S1536x2048 : Shape := ⟨2, ![1536, 2048]⟩
abbrev S1536x16x128 : Shape := ⟨3, ![1536, 16, 128]⟩
abbrev S1536x512 : Shape := ⟨2, ![1536, 512]⟩
abbrev S1536x4x128 : Shape := ⟨3, ![1536, 4, 128]⟩
abbrev S1536x64 : Shape := ⟨2, ![1536, 64]⟩
abbrev S1536x128 : Shape := ⟨2, ![1536, 128]⟩
abbrev S1536x1x128 : Shape := ⟨3, ![1536, 1, 128]⟩
abbrev S1536x16x64 : Shape := ⟨3, ![1536, 16, 64]⟩
abbrev S1536x4x64 : Shape := ⟨3, ![1536, 4, 64]⟩

abbrev nBuf : Space → Nat
  | .hbm => 31
  | .vmem => 11
  | .smem => 0
  | _ => 0

abbrev bufTy : (tb : Table) → Fin (tcTables nBuf tb) → BufTy
  | .hbm, ⟨0, _⟩ => ⟨S4x384x4096, .bf16⟩
  | .hbm, ⟨1, _⟩ => ⟨S4096, .f32⟩
  | .hbm, ⟨2, _⟩ => ⟨S4x384, .i32⟩
  | .hbm, ⟨3, _⟩ => ⟨S4096x3072, .fp8e4m3⟩
  | .hbm, ⟨4, _⟩ => ⟨S3072, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S1536x4096, .bf16⟩
  | .hbm, ⟨22, _⟩ => ⟨S1x4096, .f32⟩
  | .hbm, ⟨23, _⟩ => ⟨S1536x1, .i32⟩
  | .hbm, ⟨24, _⟩ => ⟨S1x64, .f32⟩
  | .hbm, ⟨25, _⟩ => ⟨S1x3072, .f32⟩
  | .hbm, ⟨26, _⟩ => ⟨S24576x128, .bf16⟩
  | .hbm, ⟨27, _⟩ => ⟨S6144x128, .bf16⟩
  | .hbm, ⟨28, _⟩ => ⟨S6144x128, .bf16⟩
  | .hbm, ⟨29, _⟩ => ⟨S1536x4096, .fp8e4m3⟩
  | .hbm, ⟨30, _⟩ => ⟨S1536x1, .f32⟩
  | .local _ .vmem, ⟨0, _⟩ => ⟨S1536x4096, .bf16⟩
  | .local _ .vmem, ⟨1, _⟩ => ⟨S1x4096, .f32⟩
  | .local _ .vmem, ⟨2, _⟩ => ⟨S1536x1, .i32⟩
  | .local _ .vmem, ⟨3, _⟩ => ⟨S1x64, .f32⟩
  | .local _ .vmem, ⟨4, _⟩ => ⟨S4096x3072, .fp8e4m3⟩
  | .local _ .vmem, ⟨5, _⟩ => ⟨S1x3072, .f32⟩
  | .local _ .vmem, ⟨6, _⟩ => ⟨S24576x128, .bf16⟩
  | .local _ .vmem, ⟨7, _⟩ => ⟨S6144x128, .bf16⟩
  | .local _ .vmem, ⟨8, _⟩ => ⟨S6144x128, .bf16⟩
  | .local _ .vmem, ⟨9, _⟩ => ⟨S1536x4096, .fp8e4m3⟩
  | .local _ .vmem, ⟨10, _⟩ => ⟨S1536x1, .f32⟩
  | _, _ => ⟨S4x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1536x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x4096 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Common.lean ====
/- Facts about views that both programs' runs use: a block read through a reshaped view, and the strided stores that
   together fill a block of token rows of head pairs. -/
module

public import Idealize.ShloMosaic.Lib.Pipeline.FrameBody
public import Idealize.ShloMosaic.Lib.Tactic

@[expose] public section

noncomputable section

namespace Cert.Proof

open Idealize.ShloMosaic

variable {sig : RefSig} {κ : Kind} {sp : Space} {s s' : Shape} {e : EltTy} {Val : EltTy → Type}

/-- Contents that read as `X` through a reshape of a view read, through the view itself, as `X` at the index the reshape
    carries there. -/
theorem read_of_pairs (v : View sig κ sp s e) (h : s'.numel = s.numel) {f : v.ty.Contents Val} {X : s'.Idx → Val e}
    (hX : (v.reshape s' h).read Val f = X) :
    v.read Val f = fun y => X ((Shape.reshapeEquiv h).symm y) := by
  subst hX
  funext y
  obtain ⟨z, rfl⟩ := (Shape.reshapeEquiv h).surjective y
  rw [Equiv.symm_apply_apply]
  rfl

/-- An index of a block of token rows of head pairs, `p` pairs per token, lies in the strided rectangle of pair `k`
    exactly if its row is `k` modulo `p`; this is the direction used. -/
theorem mem_pair {n p k : ℕ} (hp : 0 < p) (hn : n = 256 * p) {inb}
    {sp : ∀ a, 0 < (![p, 1, 1] : Fin 3 → ℕ) a} (y : (⟨3, ![n, 2, 128]⟩ : Shape).Idx) (hy : (y 0).val % p = k) :
    y ∈ (⟨⟨![k, 0, 0], ![256, 2, 128], ![p, 1, 1], inb⟩, sp⟩ : Rect (⟨3, ![n, 2, 128]⟩ : Shape)).set := by
  refine LoadRect.mem_set _ |>.mpr fun a => ?_
  have h0 : (y 0).val < n := (y 0).isLt
  have h1 : (y 1).val < 2 := (y 1).isLt
  have h2 : (y 2).val < 128 := (y 2).isLt
  fin_cases a
  · refine ⟨(y 0).val / p, (Nat.div_lt_of_lt_mul (by omega : (y 0).val < p * 256) : (y 0).val / p < 256), ?_⟩
    change (y 0).val = k + p * ((y 0).val / p)
    rw [← hy, Nat.mod_add_div]
  · exact ⟨(y 1).val, h1, by change (y 1).val = 0 + 1 * (y 1).val; omega⟩
  · exact ⟨(y 2).val, h2, by change (y 2).val = 0 + 1 * (y 2).val; omega⟩

end Cert.Proof

end
-- ==== Proof.KernelRun.lean ====
/- The run of `Cert.Kernel` (the kernel as it stands, over machine numbers), by hand: what the body leaves in each of its five output
   windows at a grid point (`outQ`, `outK`, `outV`, `outCodes`, `outScale`, functions of the six input blocks), the
   body's triple, the pipeline's proof data, the launch, and the frame. The q, k and v windows are stored two heads
   at a time through the view of the block as token rows of head pairs (`S2048x2x128`, `S512x2x128`). -/
module

public import proofs.«01_k».proof.Proof.Gen.Kernel.Frame
public import proofs.«01_k».proof.Proof.Gen.Kernel.Skeleton
public import Idealize.ShloMosaic.Lib.Claim
public import proofs.«01_k».proof.Proof.Common

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## What the body computes -/

/-- The six input blocks of one grid point: 256 token rows, the gain row, their positions, the rotary frequencies,
    the weights and the weights' scales. -/
structure Blocks (F : FTy → Type) where
  /-- 256 rows of the activations. -/
  x : Vec F S256x4096 .bf16
  /-- The RMS norm's gain. -/
  gain : Vec F S1x4096 .f32
  /-- The rows' positions. -/
  pos : Vec F S256x1 .i32
  /-- The rotary frequencies, the 64 of them twice. -/
  freq : Vec F S1x128 .f32
  /-- The quantised weights. -/
  w : Vec F S4096x3072 .fp8e4m3
  /-- The weights' per-column scales. -/
  ws : Vec F S1x3072 .f32

/-- The value the body names `v16`, from the input blocks. -/
def val_v16 (X : Blocks F) : FVec F S256x4096 .f32 :=
  k0_pay5 (View.ld X.x (Rect.unit (s := S256x4096) ![0, 0] S256x4096.size inb_S256x4096_S256x4096_0_0)) (View.ld X.gain (Rect.unit (s := S1x4096) ![0, 0] S1x4096.size inb_S1x4096_S1x4096_0_0))

/-- The value the body names `v19`, from the input blocks. -/
def val_v19 (X : Blocks F) : FVec F S256x1 .f32 :=
  k0_pay6 (View.ld X.x (Rect.unit (s := S256x4096) ![0, 0] S256x4096.size inb_S256x4096_S256x4096_0_0)) (View.ld X.gain (Rect.unit (s := S1x4096) ![0, 0] S1x4096.size inb_S1x4096_S1x4096_0_0))

/-- The value the body names `v21`, from the input blocks. -/
def val_v21 (X : Blocks F) : FVec F S256x1 .f32 :=
  k0_pay7 (View.ld X.x (Rect.unit (s := S256x4096) ![0, 0] S256x4096.size inb_S256x4096_S256x4096_0_0)) (View.ld X.gain (Rect.unit (s := S1x4096) ![0, 0] S1x4096.size inb_S1x4096_S1x4096_0_0))

/-- The value the body names `v33`, from the input blocks. -/
def val_v33 (X : Blocks F) : IVec S256x1 32 :=
  k0_pay8 (View.ld X.x (Rect.unit (s := S256x4096) ![0, 0] S256x4096.size inb_S256x4096_S256x4096_0_0)) (View.ld X.gain (Rect.unit (s := S1x4096) ![0, 0] S1x4096.size inb_S1x4096_S1x4096_0_0))

/-- The value the body names `v41`, from the input blocks. -/
def val_v41 (X : Blocks F) : IVec S256x1 1 :=
  k0_pay9 (View.ld X.x (Rect.unit (s := S256x4096) ![0, 0] S256x4096.size inb_S256x4096_S256x4096_0_0)) (View.ld X.gain (Rect.unit (s := S1x4096) ![0, 0] S1x4096.size inb_S1x4096_S1x4096_0_0))

/-- The value the body names `v77`, from the input blocks. -/
def val_v77 (X : Blocks F) : IVec S256x1 32 :=
  k0_pay10 (val_v21 X) (val_v33 X) (val_v41 X)

/-- The value the body names `v85`, from the input blocks. -/
def val_v85 (X : Blocks F) : IVec S256x1 1 :=
  k0_pay11 (val_v21 X) (val_v33 X) (val_v41 X)

/-- The value the body names `v123`, from the input blocks. -/
def val_v123 (X : Blocks F) : IVec S256x1 32 :=
  k0_pay12 (val_v19 X) (val_v21 X) (val_v77 X) (val_v85 X)

/-- The value the body names `v128`, from the input blocks. -/
def val_v128 (X : Blocks F) : FVec F S256x1 .f32 :=
  k0_pay13 (val_v19 X) (val_v21 X) (val_v77 X) (val_v85 X)

/-- The value the body names `v142`, from the input blocks. -/
def val_v142 (X : Blocks F) : FVec F S256x4096 .fp8e4m3 :=
  k0_pay14 (val_v16 X) (val_v123 X)

/-- The value the body names `v154`, from the input blocks. -/
def val_v154 (X : Blocks F) : FVec F S256x128 .f32 :=
  k0_pay16 (View.ld X.pos (Rect.unit (s := S256x1) ![0, 0] S256x1.size inb_S256x1_S256x1_0_0)) (View.ld X.freq (Rect.unit (s := S1x128) ![0, 0] S1x128.size inb_S1x128_S1x128_0_0))

/-- The value the body names `v161`, from the input blocks. -/
def val_v161 (X : Blocks F) : FVec F S256x128 .f32 :=
  k0_pay17 (View.ld X.pos (Rect.unit (s := S256x1) ![0, 0] S256x1.size inb_S256x1_S256x1_0_0)) (View.ld X.freq (Rect.unit (s := S1x128) ![0, 0] S1x128.size inb_S1x128_S1x128_0_0))

/-- The value the body names `v165`, from the input blocks. -/
def val_v165 (X : Blocks F) : FVec F S256x512 .f32 :=
  k0_pay18 (val_v16 X) (val_v123 X) (val_v128 X) (View.ld X.w (Rect.unit (s := S4096x3072) ![0, 0] S4096x512.size inb_S4096x3072_S4096x512_0_0))

/-- The value the body names `v166`, from the input blocks. -/
def val_v166 (X : Blocks F) : Vec F S1x512 .f32 :=
  (View.ld X.ws (Rect.unit (s := S1x3072) ![0, 0] S1x512.size inb_S1x3072_S1x512_0_0))

/-- The value the body names `v203`, from the input blocks. -/
def val_v203 (X : Blocks F) : FVec F S256x512 .f32 :=
  k0_pay22 (val_v128 X) (val_v142 X) (View.ld X.w (Rect.unit (s := S4096x3072) ![0, 512] S4096x512.size inb_S4096x3072_S4096x512_0_512)) (View.ld X.ws (Rect.unit (s := S1x3072) ![0, 512] S1x512.size inb_S1x3072_S1x512_0_512))

/-- The value the body names `v208`, from the input blocks. -/
def val_v208 (X : Blocks F) : FVec F S256x128 .f32 :=
  k0_pay23 (val_v128 X) (val_v142 X) (val_v154 X) (val_v161 X) (View.ld X.w (Rect.unit (s := S4096x3072) ![0, 512] S4096x512.size inb_S4096x3072_S4096x512_0_512)) (View.ld X.ws (Rect.unit (s := S1x3072) ![0, 512] S1x512.size inb_S1x3072_S1x512_0_512))

/-- The value the body names `v237`, from the input blocks. -/
def val_v237 (X : Blocks F) : FVec F S256x512 .f32 :=
  k0_pay26 (val_v128 X) (val_v142 X) (View.ld X.w (Rect.unit (s := S4096x3072) ![0, 1024] S4096x512.size inb_S4096x3072_S4096x512_0_1024)) (View.ld X.ws (Rect.unit (s := S1x3072) ![0, 1024] S1x512.size inb_S1x3072_S1x512_0_1024))

/-- The value the body names `v242`, from the input blocks. -/
def val_v242 (X : Blocks F) : FVec F S256x128 .f32 :=
  k0_pay27 (val_v128 X) (val_v142 X) (val_v154 X) (val_v161 X) (View.ld X.w (Rect.unit (s := S4096x3072) ![0, 1024] S4096x512.size inb_S4096x3072_S4096x512_0_1024)) (View.ld X.ws (Rect.unit (s := S1x3072) ![0, 1024] S1x512.size inb_S1x3072_S1x512_0_1024))

/-- The value the body names `v247`, from the input blocks. -/
def val_v247 (X : Blocks F) : FVec F S256x128 .f32 :=
  k0_pay28 (val_v128 X) (val_v142 X) (val_v154 X) (val_v161 X) (View.ld X.w (Rect.unit (s := S4096x3072) ![0, 1024] S4096x512.size inb_S4096x3072_S4096x512_0_1024)) (View.ld X.ws (Rect.unit (s := S1x3072) ![0, 1024] S1x512.size inb_S1x3072_S1x512_0_1024))

/-- The value the body names `v248`, from the input blocks. -/
def val_v248 (X : Blocks F) : FVec F S256x128 .f32 :=
  k0_pay29 (val_v128 X) (val_v142 X) (View.ld X.w (Rect.unit (s := S4096x3072) ![0, 1024] S4096x512.size inb_S4096x3072_S4096x512_0_1024)) (View.ld X.ws (Rect.unit (s := S1x3072) ![0, 1024] S1x512.size inb_S1x3072_S1x512_0_1024))

/-- The value the body names `v249`, from the input blocks. -/
def val_v249 (X : Blocks F) : FVec F S256x128 .f32 :=
  k0_pay30 (val_v128 X) (val_v142 X) (val_v154 X) (View.ld X.w (Rect.unit (s := S4096x3072) ![0, 1024] S4096x512.size inb_S4096x3072_S4096x512_0_1024)) (View.ld X.ws (Rect.unit (s := S1x3072) ![0, 1024] S1x512.size inb_S1x3072_S1x512_0_1024))

/-- The value the body names `c64_i32_79`, from the input blocks. -/
def val_c64_i32_79 (X : Blocks F) : BitVec 32 :=
  64#32

/-- The value the body names `v276`, from the input blocks. -/
def val_v276 (X : Blocks F) : FVec F S256x128 .f32 :=
  k0_pay34 (val_v128 X) (val_v142 X) (val_v154 X) (val_v161 X) (View.ld X.w (Rect.unit (s := S4096x3072) ![0, 1536] S4096x512.size inb_S4096x3072_S4096x512_0_1536)) (View.ld X.ws (Rect.unit (s := S1x3072) ![0, 1536] S1x512.size inb_S1x3072_S1x512_0_1536))

/-- The value the body names `v281`, from the input blocks. -/
def val_v281 (X : Blocks F) : FVec F S256x128 .f32 :=
  k0_pay35 (val_v128 X) (val_v142 X) (val_v154 X) (val_v161 X) (View.ld X.w (Rect.unit (s := S4096x3072) ![0, 1536] S4096x512.size inb_S4096x3072_S4096x512_0_1536)) (View.ld X.ws (Rect.unit (s := S1x3072) ![0, 1536] S1x512.size inb_S1x3072_S1x512_0_1536))

/-- The value the body names `v286`, from the input blocks. -/
def val_v286 (X : Blocks F) : FVec F S256x128 .f32 :=
  k0_pay36 (val_v128 X) (val_v142 X) (val_v154 X) (val_v161 X) (View.ld X.w (Rect.unit (s := S4096x3072) ![0, 1536] S4096x512.size inb_S4096x3072_S4096x512_0_1536)) (View.ld X.ws (Rect.unit (s := S1x3072) ![0, 1536] S1x512.size inb_S1x3072_S1x512_0_1536))

/-- The value the body names `v291`, from the input blocks. -/
def val_v291 (X : Blocks F) : FVec F S256x128 .f32 :=
  k0_pay37 (val_v128 X) (val_v142 X) (val_v154 X) (val_v161 X) (View.ld X.w (Rect.unit (s := S4096x3072) ![0, 1536] S4096x512.size inb_S4096x3072_S4096x512_0_1536)) (View.ld X.ws (Rect.unit (s := S1x3072) ![0, 1536] S1x512.size inb_S1x3072_S1x512_0_1536))

/-- The value the body names `v329`, from the input blocks. -/
def val_v329 (X : Blocks F) : IVec S256x128 32 :=
  (k0_pay42 (val_v128 X) (val_v142 X) (val_v154 X) (val_v161 X) (View.ld X.w (Rect.unit (s := S4096x3072) ![0, 2048] S4096x512.size inb_S4096x3072_S4096x512_0_2048)) (View.ld X.ws (Rect.unit (s := S1x3072) ![0, 2048] S1x512.size inb_S1x3072_S1x512_0_2048)))

/-- Window q's block as token rows of head pairs after the body: its 8 stores, the last one first; store `k` writes
    head pair `k` of every token. -/
def pairsQ (X : Blocks F) : Vec F S2048x2x128 .bf16 :=
  View.canon [
    ⟨⟨(⟨![7, 0, 0], S256x2x128.size, ![8, 1, 1], inb_S2048x2x128_S256x2x128_7_0_0_s_8_1_1⟩ : LoadRect S2048x2x128), spos_8_1_1⟩, (k0_pay39 (val_v286 X) (val_v291 X))⟩,
    ⟨⟨(⟨![6, 0, 0], S256x2x128.size, ![8, 1, 1], inb_S2048x2x128_S256x2x128_6_0_0_s_8_1_1⟩ : LoadRect S2048x2x128), spos_8_1_1⟩, (k0_pay38 (val_v276 X) (val_v281 X))⟩,
    ⟨⟨(⟨![5, 0, 0], S256x2x128.size, ![8, 1, 1], inb_S2048x2x128_S256x2x128_5_0_0_s_8_1_1⟩ : LoadRect S2048x2x128), spos_8_1_1⟩, (k0_pay32 (val_v154 X) (val_v161 X) (val_v237 X) (val_v248 X) (val_v249 X) (val_c64_i32_79 X))⟩,
    ⟨⟨(⟨![4, 0, 0], S256x2x128.size, ![8, 1, 1], inb_S2048x2x128_S256x2x128_4_0_0_s_8_1_1⟩ : LoadRect S2048x2x128), spos_8_1_1⟩, (k0_pay31 (val_v242 X) (val_v247 X))⟩,
    ⟨⟨(⟨![3, 0, 0], S256x2x128.size, ![8, 1, 1], inb_S2048x2x128_S256x2x128_3_0_0_s_8_1_1⟩ : LoadRect S2048x2x128), spos_8_1_1⟩, (k0_pay25 (val_v154 X) (val_v161 X) (val_v203 X))⟩,
    ⟨⟨(⟨![2, 0, 0], S256x2x128.size, ![8, 1, 1], inb_S2048x2x128_S256x2x128_2_0_0_s_8_1_1⟩ : LoadRect S2048x2x128), spos_8_1_1⟩, (k0_pay24 (val_v154 X) (val_v161 X) (val_v203 X) (val_v208 X))⟩,
    ⟨⟨(⟨![1, 0, 0], S256x2x128.size, ![8, 1, 1], inb_S2048x2x128_S256x2x128_1_0_0_s_8_1_1⟩ : LoadRect S2048x2x128), spos_8_1_1⟩, (k0_pay21 (val_v154 X) (val_v161 X) (val_v165 X) (val_v166 X))⟩,
    ⟨⟨(⟨![0, 0, 0], S256x2x128.size, ![8, 1, 1], inb_S2048x2x128_S256x2x128_0_0_0_s_8_1_1⟩ : LoadRect S2048x2x128), spos_8_1_1⟩, (k0_pay20 (val_v154 X) (val_v161 X) (val_v165 X) (val_v166 X))⟩]

/-- Window q's block after the body: the head pairs read back row by row. -/
def outQ (X : Blocks F) : Vec F S4096x128 .bf16 := fun y =>
  pairsQ X ((Shape.reshapeEquiv reshapes_S4096x128_S2048x2x128.1).symm y)

/-- Window k's block as token rows of head pairs after the body: its 2 stores, the last one first; store `k` writes
    head pair `k` of every token. -/
def pairsK (X : Blocks F) : Vec F S512x2x128 .bf16 :=
  View.canon [
    ⟨⟨(⟨![1, 0, 0], S256x2x128.size, ![2, 1, 1], inb_S512x2x128_S256x2x128_1_0_0_s_2_1_1⟩ : LoadRect S512x2x128), spos_2_1_1⟩, (k0_pay1 (F := F) (val_v329 X))⟩,
    ⟨⟨(⟨![0, 0, 0], S256x2x128.size, ![2, 1, 1], inb_S512x2x128_S256x2x128_0_0_0_s_2_1_1⟩ : LoadRect S512x2x128), spos_2_1_1⟩, (k0_pay41 (val_v128 X) (val_v142 X) (val_v154 X) (val_v161 X) (View.ld X.w (Rect.unit (s := S4096x3072) ![0, 2048] S4096x512.size inb_S4096x3072_S4096x512_0_2048)) (View.ld X.ws (Rect.unit (s := S1x3072) ![0, 2048] S1x512.size inb_S1x3072_S1x512_0_2048)))⟩]

/-- Window k's block after the body: the head pairs read back row by row. -/
def outK (X : Blocks F) : Vec F S1024x128 .bf16 := fun y =>
  pairsK X ((Shape.reshapeEquiv reshapes_S1024x128_S512x2x128.1).symm y)

/-- Window v's block as token rows of head pairs after the body: its 2 stores, the last one first; store `k` writes
    head pair `k` of every token. -/
def pairsV (X : Blocks F) : Vec F S512x2x128 .bf16 :=
  View.canon [
    ⟨⟨(⟨![1, 0, 0], S256x2x128.size, ![2, 1, 1], inb_S512x2x128_S256x2x128_1_0_0_s_2_1_1⟩ : LoadRect S512x2x128), spos_2_1_1⟩, (k0_pay4 (val_v128 X) (val_v142 X) (View.ld X.w (Rect.unit (s := S4096x3072) ![0, 2560] S4096x512.size inb_S4096x3072_S4096x512_0_2560)) (View.ld X.ws (Rect.unit (s := S1x3072) ![0, 2560] S1x512.size inb_S1x3072_S1x512_0_2560)))⟩,
    ⟨⟨(⟨![0, 0, 0], S256x2x128.size, ![2, 1, 1], inb_S512x2x128_S256x2x128_0_0_0_s_2_1_1⟩ : LoadRect S512x2x128), spos_2_1_1⟩, (k0_pay3 (val_v128 X) (val_v142 X) (View.ld X.w (Rect.unit (s := S4096x3072) ![0, 2560] S4096x512.size inb_S4096x3072_S4096x512_0_2560)) (View.ld X.ws (Rect.unit (s := S1x3072) ![0, 2560] S1x512.size inb_S1x3072_S1x512_0_2560)))⟩]

/-- Window v's block after the body: the head pairs read back row by row. -/
def outV (X : Blocks F) : Vec F S1024x128 .bf16 := fun y =>
  pairsV X ((Shape.reshapeEquiv reshapes_S1024x128_S512x2x128.1).symm y)

/-- The 8 strided stores of window q cover its block, whatever they store. -/
theorem coverQ (p7 p6 p5 p4 p3 p2 p1 p0 : Vec F S256x2x128 .bf16) (y : S2048x2x128.Idx) :
    ∃ pc ∈ ([⟨⟨(⟨![7, 0, 0], S256x2x128.size, ![8, 1, 1], inb_S2048x2x128_S256x2x128_7_0_0_s_8_1_1⟩ : LoadRect S2048x2x128), spos_8_1_1⟩, p7⟩, ⟨⟨(⟨![6, 0, 0], S256x2x128.size, ![8, 1, 1], inb_S2048x2x128_S256x2x128_6_0_0_s_8_1_1⟩ : LoadRect S2048x2x128), spos_8_1_1⟩, p6⟩, ⟨⟨(⟨![5, 0, 0], S256x2x128.size, ![8, 1, 1], inb_S2048x2x128_S256x2x128_5_0_0_s_8_1_1⟩ : LoadRect S2048x2x128), spos_8_1_1⟩, p5⟩, ⟨⟨(⟨![4, 0, 0], S256x2x128.size, ![8, 1, 1], inb_S2048x2x128_S256x2x128_4_0_0_s_8_1_1⟩ : LoadRect S2048x2x128), spos_8_1_1⟩, p4⟩, ⟨⟨(⟨![3, 0, 0], S256x2x128.size, ![8, 1, 1], inb_S2048x2x128_S256x2x128_3_0_0_s_8_1_1⟩ : LoadRect S2048x2x128), spos_8_1_1⟩, p3⟩, ⟨⟨(⟨![2, 0, 0], S256x2x128.size, ![8, 1, 1], inb_S2048x2x128_S256x2x128_2_0_0_s_8_1_1⟩ : LoadRect S2048x2x128), spos_8_1_1⟩, p2⟩, ⟨⟨(⟨![1, 0, 0], S256x2x128.size, ![8, 1, 1], inb_S2048x2x128_S256x2x128_1_0_0_s_8_1_1⟩ : LoadRect S2048x2x128), spos_8_1_1⟩, p1⟩, ⟨⟨(⟨![0, 0, 0], S256x2x128.size, ![8, 1, 1], inb_S2048x2x128_S256x2x128_0_0_0_s_8_1_1⟩ : LoadRect S2048x2x128), spos_8_1_1⟩, p0⟩] : List (View.Piece (Elt F) S2048x2x128 .bf16)), y ∈ pc.1.set := by
  have hk : (y 0).val % 8 < 8 := Nat.mod_lt _ (by decide)
  rcases (by omega : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0) with h | h | h | h | h | h | h | h
  · exact ⟨_, .head _, Cert.Proof.mem_pair (by decide) (by decide) y h⟩
  · exact ⟨_, .tail _ (.head _), Cert.Proof.mem_pair (by decide) (by decide) y h⟩
  · exact ⟨_, .tail _ (.tail _ (.head _)), Cert.Proof.mem_pair (by decide) (by decide) y h⟩
  · exact ⟨_, .tail _ (.tail _ (.tail _ (.head _))), Cert.Proof.mem_pair (by decide) (by decide) y h⟩
  · exact ⟨_, .tail _ (.tail _ (.tail _ (.tail _ (.head _)))), Cert.Proof.mem_pair (by decide) (by decide) y h⟩
  · exact ⟨_, .tail _ (.tail _ (.tail _ (.tail _ (.tail _ (.head _))))), Cert.Proof.mem_pair (by decide) (by decide) y h⟩
  · exact ⟨_, .tail _ (.tail _ (.tail _ (.tail _ (.tail _ (.tail _ (.head _)))))), Cert.Proof.mem_pair (by decide) (by decide) y h⟩
  · exact ⟨_, .tail _ (.tail _ (.tail _ (.tail _ (.tail _ (.tail _ (.tail _ (.head _))))))), Cert.Proof.mem_pair (by decide) (by decide) y h⟩

/-- The 2 strided stores of window k cover its block, whatever they store. -/
theorem coverK (p1 p0 : Vec F S256x2x128 .bf16) (y : S512x2x128.Idx) :
    ∃ pc ∈ ([⟨⟨(⟨![1, 0, 0], S256x2x128.size, ![2, 1, 1], inb_S512x2x128_S256x2x128_1_0_0_s_2_1_1⟩ : LoadRect S512x2x128), spos_2_1_1⟩, p1⟩, ⟨⟨(⟨![0, 0, 0], S256x2x128.size, ![2, 1, 1], inb_S512x2x128_S256x2x128_0_0_0_s_2_1_1⟩ : LoadRect S512x2x128), spos_2_1_1⟩, p0⟩] : List (View.Piece (Elt F) S512x2x128 .bf16)), y ∈ pc.1.set := by
  have hk : (y 0).val % 2 < 2 := Nat.mod_lt _ (by decide)
  rcases (by omega : (y 0).val % 2 = 1 ∨ (y 0).val % 2 = 0) with h | h
  · exact ⟨_, .head _, Cert.Proof.mem_pair (by decide) (by decide) y h⟩
  · exact ⟨_, .tail _ (.head _), Cert.Proof.mem_pair (by decide) (by decide) y h⟩

/-- The 2 strided stores of window v cover its block, whatever they store. -/
theorem coverV (p1 p0 : Vec F S256x2x128 .bf16) (y : S512x2x128.Idx) :
    ∃ pc ∈ ([⟨⟨(⟨![1, 0, 0], S256x2x128.size, ![2, 1, 1], inb_S512x2x128_S256x2x128_1_0_0_s_2_1_1⟩ : LoadRect S512x2x128), spos_2_1_1⟩, p1⟩, ⟨⟨(⟨![0, 0, 0], S256x2x128.size, ![2, 1, 1], inb_S512x2x128_S256x2x128_0_0_0_s_2_1_1⟩ : LoadRect S512x2x128), spos_2_1_1⟩, p0⟩] : List (View.Piece (Elt F) S512x2x128 .bf16)), y ∈ pc.1.set := by
  have hk : (y 0).val % 2 < 2 := Nat.mod_lt _ (by decide)
  rcases (by omega : (y 0).val % 2 = 1 ∨ (y 0).val % 2 = 0) with h | h
  · exact ⟨_, .head _, Cert.Proof.mem_pair (by decide) (by decide) y h⟩
  · exact ⟨_, .tail _ (.head _), Cert.Proof.mem_pair (by decide) (by decide) y h⟩

/-- The codes window's block after the body. -/
def outCodes (X : Blocks F) : Vec F S256x4096 .fp8e4m3 :=
  View.canon [⟨(Rect.unit (s := S256x4096) ![0, 0] S256x4096.size inb_S256x4096_S256x4096_0_0), (k0_pay14 (val_v16 X) (val_v123 X))⟩]

/-- The scale window's block after the body. -/
def outScale (X : Blocks F) : Vec F S256x1 .f32 :=
  View.canon [⟨(Rect.unit (s := S256x1) ![0, 0] S256x1.size inb_S256x1_S256x1_0_0), (val_v128 X)⟩]

/-! ## The body's triple -/

set_option maxHeartbeats 1000000 in
/-- The kernel body on whole staging memrefs, the inputs' at the blocks `X` and the outputs' at anything, runs to the
    continuation holding the inputs as they were and each output at its function of the blocks. The q, k and v buffers
    are held through their head-pair views while the body runs. -/
theorem sound_kernel (c : Dev nD) (E : Set ℕ) (i : grid0.Coords) (arg1 : Memref sig .tc .vmem S256x4096 .bf16) (harg1 : arg1.IsWhole) (arg2 : Memref sig .tc .vmem S1x4096 .f32) (harg2 : arg2.IsWhole) (arg3 : Memref sig .tc .vmem S256x1 .i32) (harg3 : arg3.IsWhole) (arg4 : Memref sig .tc .vmem S1x128 .f32) (harg4 : arg4.IsWhole) (arg5 : Memref sig .tc .vmem S4096x3072 .fp8e4m3) (harg5 : arg5.IsWhole) (arg6 : Memref sig .tc .vmem S1x3072 .f32) (harg6 : arg6.IsWhole) (arg7 : Memref sig .tc .vmem S4096x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S256x4096 .fp8e4m3) (harg10 : arg10.IsWhole) (arg11 : Memref sig .tc .vmem S256x1 .f32) (harg11 : arg11.IsWhole)
    (X : Blocks F) (K : PUnit → sProp 𝕄) :
    iprop(owns (c : Thread nD τ) arg1 fullShare X.x ∗ owns (c : Thread nD τ) arg2 fullShare X.gain ∗ owns (c : Thread nD τ) arg3 fullShare X.pos ∗ owns (c : Thread nD τ) arg4 fullShare X.freq ∗ owns (c : Thread nD τ) arg5 fullShare X.w ∗ owns (c : Thread nD τ) arg6 fullShare X.ws ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare X.x ∗ owns (c : Thread nD τ) arg2 fullShare X.gain ∗ owns (c : Thread nD τ) arg3 fullShare X.pos ∗ owns (c : Thread nD τ) arg4 fullShare X.freq ∗ owns (c : Thread nD τ) arg5 fullShare X.w ∗ owns (c : Thread nD τ) arg6 fullShare X.ws ∗ owns (c : Thread nD τ) arg7 fullShare (outQ X) ∗ owns (c : Thread nD τ) arg8 fullShare (outK X) ∗ owns (c : Thread nD τ) arg9 fullShare (outV X) ∗ owns (c : Thread nD τ) arg10 fullShare (outCodes X) ∗ owns (c : Thread nD τ) arg11 fullShare (outScale X)) -∗ K ⟨⟩))
      ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11) K := by
  obtain ⟨x0, x1, x2, x3, x4, x5⟩ := X
  simp only [cc0_rmsnorm_fp8_qkv_rope_eq_skeleton]; unfold cc0_rmsnorm_fp8_qkv_rope_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  rw [← Memref.set_view_reshape arg7 reshapes_S4096x128_S2048x2x128.1 reshapes_S4096x128_S2048x2x128.2 harg7.contiguous,
    ← Memref.set_view_reshape arg8 reshapes_S1024x128_S512x2x128.1 reshapes_S1024x128_S512x2x128.2 harg8.contiguous,
    ← Memref.set_view_reshape arg9 reshapes_S1024x128_S512x2x128.1 reshapes_S1024x128_S512x2x128.2 harg9.contiguous]
  change _ ∗ _ ∗ _ ∗ _ ∗ _ ∗ _
    ∗ (∃ d, ∃ f, ⌜_⌝ ∗ (arg7.reshape S2048x2x128 reshapes_S4096x128_S2048x2x128.1 reshapes_S4096x128_S2048x2x128.2 harg7.contiguous).view.loc (c : Thread nD τ) ↦[(arg7.reshape S2048x2x128 reshapes_S4096x128_S2048x2x128.1 reshapes_S4096x128_S2048x2x128.2 harg7.contiguous).view.set]{fullShare} f)
    ∗ (∃ d, ∃ f, ⌜_⌝ ∗ (arg8.reshape S512x2x128 reshapes_S1024x128_S512x2x128.1 reshapes_S1024x128_S512x2x128.2 harg8.contiguous).view.loc (c : Thread nD τ) ↦[(arg8.reshape S512x2x128 reshapes_S1024x128_S512x2x128.1 reshapes_S1024x128_S512x2x128.2 harg8.contiguous).view.set]{fullShare} f)
    ∗ (∃ d, ∃ f, ⌜_⌝ ∗ (arg9.reshape S512x2x128 reshapes_S1024x128_S512x2x128.1 reshapes_S1024x128_S512x2x128.2 harg9.contiguous).view.loc (c : Thread nD τ) ↦[(arg9.reshape S512x2x128 reshapes_S1024x128_S512x2x128.1 reshapes_S1024x128_S512x2x128.2 harg9.contiguous).view.set]{fullShare} f)
    ∗ _ ⊢ _
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (Cert.Proof.read_of_pairs _ reshapes_S4096x128_S2048x2x128.1 (View.read_writes_eq_canon _ _ _ (fun y => ?_))).trans ?_
    · exact coverQ _ _ _ _ _ _ _ _ y
    · rfl
  isplitl [H7]
  · iexists _; isplitr
    swap; · iexact H7
    ipureintro
    refine (Cert.Proof.read_of_pairs _ reshapes_S1024x128_S512x2x128.1 (View.read_writes_eq_canon _ _ _ (fun y => ?_))).trans ?_
    · exact coverK _ _ y
    · rfl
  isplitl [H8]
  · iexists _; isplitr
    swap; · iexact H8
    ipureintro
    refine (Cert.Proof.read_of_pairs _ reshapes_S1024x128_S512x2x128.1 (View.read_writes_eq_canon _ _ _ (fun y => ?_))).trans ?_
    · exact coverV _ _ y
    · rfl
  isplitl [H9]
  · iexists _; isplitr
    swap; · iexact H9
    ipureintro
    refine (View.read_writes_eq_canon _ _ _ (View.cover_of_tiled _ S256x4096.size (by rfl))).trans ?_
    rfl
  iexists _; isplitr
  swap; · iexact H10
  ipureintro
  refine (View.read_writes_eq_canon _ _ _ (View.cover_of_tiled _ S256x1.size (by rfl))).trans ?_
  rfl

/-! ## The pipeline's proof data -/

variable (m : (ℓ : Loc nD τ sig) → Buf (Elt F) ℓ) (ρ : Dev nD → PrngReg)

/-- The six input blocks at grid point `t`, read off the arrays as the pipeline finds them. -/
def blocksAt (c : Dev nD) (t : Fin cfg0.N) : Blocks F where
  x := iblk m c 0 t
  gain := iblk m c 1 t
  pos := iblk m c 2 t
  freq := iblk m c 3 t
  w := iblk m c 4 t
  ws := iblk m c 5 t

/-- The proof data on core `c`: the arrays as the pipeline finds them, after the body at point `t` each input's buffer
    at its block and each output's at its function of the input blocks, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outQ (blocksAt m c t)
    | ⟨7, _⟩ => outK (blocksAt m c t)
    | ⟨8, _⟩ => outV (blocksAt m c t)
    | ⟨9, _⟩ => outCodes (blocksAt m c t)
    | ⟨10, _⟩ => outScale (blocksAt m c t)
  Φ _ := Pipeline.ΦA spec0 c
  q _ := fullShare
  owed _ := 0

/-- The proof data's arrays are the ones the pipeline finds. -/
theorem A_eq (c : Dev nD) (w : Fin cfg0.W) : (dats m 0 c).A w = V m c (Pipeline.arrRef spec0 w) := by
  dsimp only [dats]

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = outQ (blocksAt m c t) := by dsimp only [dats]
/-- What the body leaves in window 7. -/
theorem after0_7 (c : Dev nD) (t : Fin cfg0.N) : (dats m 0 c).after 7 t = outK (blocksAt m c t) := by dsimp only [dats]
/-- What the body leaves in window 8. -/
theorem after0_8 (c : Dev nD) (t : Fin cfg0.N) : (dats m 0 c).after 8 t = outV (blocksAt m c t) := by dsimp only [dats]
/-- What the body leaves in window 9. -/
theorem after0_9 (c : Dev nD) (t : Fin cfg0.N) : (dats m 0 c).after 9 t = outCodes (blocksAt m c t) := by dsimp only [dats]
/-- What the body leaves in window 10. -/
theorem after0_10 (c : Dev nD) (t : Fin cfg0.N) : (dats m 0 c).after 10 t = outScale (blocksAt m c t) := by dsimp only [dats]

/-- Window 0 holds its block when the body is called. -/
theorem before0_0 (c : Dev nD) (t : Fin cfg0.N) (d) : (dats m 0 c).before 0 t d = iblk m c 0 t :=
  before0_0_of m (dats m 0 c) (A_eq m c 0) (after0_0 m c) t d
/-- Window 1 holds its block when the body is called. -/
theorem before0_1 (c : Dev nD) (t : Fin cfg0.N) (d) : (dats m 0 c).before 1 t d = iblk m c 1 t :=
  before0_1_of m (dats m 0 c) (A_eq m c 1) (after0_1 m c) t d
/-- Window 2 holds its block when the body is called. -/
theorem before0_2 (c : Dev nD) (t : Fin cfg0.N) (d) : (dats m 0 c).before 2 t d = iblk m c 2 t :=
  before0_2_of m (dats m 0 c) (A_eq m c 2) (after0_2 m c) t d
/-- Window 3 holds its block when the body is called. -/
theorem before0_3 (c : Dev nD) (t : Fin cfg0.N) (d) : (dats m 0 c).before 3 t d = iblk m c 3 t :=
  before0_3_of m (dats m 0 c) (A_eq m c 3) (after0_3 m c) t d
/-- Window 4 holds its block when the body is called. -/
theorem before0_4 (c : Dev nD) (t : Fin cfg0.N) (d) : (dats m 0 c).before 4 t d = iblk m c 4 t :=
  before0_4_of m (dats m 0 c) (A_eq m c 4) (after0_4 m c) t d
/-- Window 5 holds its block when the body is called. -/
theorem before0_5 (c : Dev nD) (t : Fin cfg0.N) (d) : (dats m 0 c).before 5 t d = iblk m c 5 t :=
  before0_5_of m (dats m 0 c) (A_eq m c 5) (after0_5 m c) t d

/-! ## The body obligation, at any grid point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' memrefs hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (blocksAt m c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one, which takes unfolding
-- plain definitions in a metavariable's type
set_option backward.isDefEq.respectTransparency.types false in
set_option maxHeartbeats 800000 in
/-- The launch: every execution of @main ends, every array of the pipeline at what the proof data compute, every other
    buffer as it was found, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- `run_main_quiescent` without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end as they began and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel.Run

end
-- ==== Proof.KernelIdealRun.lean ====
/- The run of `Cert.KernelIdeal` (the idealized kernel), by hand: what the body leaves in each of its five output
   windows at a grid point (`outQ`, `outK`, `outV`, `outCodes`, `outScale`, functions of the six input blocks), the
   body's triple, the pipeline's proof data, the launch, and the frame. The q, k and v windows are stored two heads
   at a time through the view of the block as token rows of head pairs (`S2048x2x128`, `S512x2x128`). -/
module

public import proofs.«01_k».proof.Proof.Gen.KernelIdeal.Frame
public import proofs.«01_k».proof.Proof.Gen.KernelIdeal.Skeleton
public import Idealize.ShloMosaic.Lib.Claim
public import proofs.«01_k».proof.Proof.Common

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- The six input blocks of one grid point: 256 token rows, the gain row, their positions, the rotary frequencies,
    the weights and the weights' scales. -/
structure Blocks (F : FTy → Type) where
  /-- 256 rows of the activations. -/
  x : Vec F S256x4096 .bf16
  /-- The RMS norm's gain. -/
  gain : Vec F S1x4096 .f32
  /-- The rows' positions. -/
  pos : Vec F S256x1 .i32
  /-- The rotary frequencies, the 64 of them twice. -/
  freq : Vec F S1x128 .f32
  /-- The quantised weights. -/
  w : Vec F S4096x3072 .fp8e4m3
  /-- The weights' per-column scales. -/
  ws : Vec F S1x3072 .f32

/-- The value the body names `v16`, from the input blocks. -/
def val_v16 (X : Blocks F) : FVec F S256x4096 .f32 :=
  k0_pay1 (View.ld X.x (Rect.unit (s := S256x4096) ![0, 0] S256x4096.size inb_S256x4096_S256x4096_0_0)) (View.ld X.gain (Rect.unit (s := S1x4096) ![0, 0] S1x4096.size inb_S1x4096_S1x4096_0_0))

/-- The value the body names `v19`, from the input blocks. -/
def val_v19 (X : Blocks F) : FVec F S256x1 .f32 :=
  k0_pay2 (View.ld X.x (Rect.unit (s := S256x4096) ![0, 0] S256x4096.size inb_S256x4096_S256x4096_0_0)) (View.ld X.gain (Rect.unit (s := S1x4096) ![0, 0] S1x4096.size inb_S1x4096_S1x4096_0_0))

/-- The value the body names `v21`, from the input blocks. -/
def val_v21 (X : Blocks F) : FVec F S256x1 .f32 :=
  k0_pay3 (View.ld X.x (Rect.unit (s := S256x4096) ![0, 0] S256x4096.size inb_S256x4096_S256x4096_0_0)) (View.ld X.gain (Rect.unit (s := S1x4096) ![0, 0] S1x4096.size inb_S1x4096_S1x4096_0_0))

/-- The value the body names `v33`, from the input blocks. -/
def val_v33 (X : Blocks F) : IVec S256x1 32 :=
  k0_pay4 (View.ld X.x (Rect.unit (s := S256x4096) ![0, 0] S256x4096.size inb_S256x4096_S256x4096_0_0)) (View.ld X.gain (Rect.unit (s := S1x4096) ![0, 0] S1x4096.size inb_S1x4096_S1x4096_0_0))

/-- The value the body names `v41`, from the input blocks. -/
def val_v41 (X : Blocks F) : IVec S256x1 1 :=
  k0_pay5 (View.ld X.x (Rect.unit (s := S256x4096) ![0, 0] S256x4096.size inb_S256x4096_S256x4096_0_0)) (View.ld X.gain (Rect.unit (s := S1x4096) ![0, 0] S1x4096.size inb_S1x4096_S1x4096_0_0))

/-- The value the body names `v77`, from the input blocks. -/
def val_v77 (X : Blocks F) : IVec S256x1 32 :=
  k0_pay6 (val_v21 X) (val_v33 X) (val_v41 X)

/-- The value the body names `v85`, from the input blocks. -/
def val_v85 (X : Blocks F) : IVec S256x1 1 :=
  k0_pay7 (val_v21 X) (val_v33 X) (val_v41 X)

/-- The value the body names `v123`, from the input blocks. -/
def val_v123 (X : Blocks F) : IVec S256x1 32 :=
  k0_pay8 (val_v19 X) (val_v21 X) (val_v77 X) (val_v85 X)

/-- The value the body names `v128`, from the input blocks. -/
def val_v128 (X : Blocks F) : FVec F S256x1 .f32 :=
  k0_pay9 (val_v19 X) (val_v21 X) (val_v77 X) (val_v85 X)

/-- The value the body names `v142`, from the input blocks. -/
def val_v142 (X : Blocks F) : FVec F S256x4096 .fp8e4m3 :=
  k0_pay10 (val_v16 X) (val_v123 X)

/-- The value the body names `v154`, from the input blocks. -/
def val_v154 (X : Blocks F) : FVec F S256x128 .f32 :=
  k0_pay12 (View.ld X.pos (Rect.unit (s := S256x1) ![0, 0] S256x1.size inb_S256x1_S256x1_0_0)) (View.ld X.freq (Rect.unit (s := S1x128) ![0, 0] S1x128.size inb_S1x128_S1x128_0_0))

/-- The value the body names `v161`, from the input blocks. -/
def val_v161 (X : Blocks F) : FVec F S256x128 .f32 :=
  k0_pay13 (View.ld X.pos (Rect.unit (s := S256x1) ![0, 0] S256x1.size inb_S256x1_S256x1_0_0)) (View.ld X.freq (Rect.unit (s := S1x128) ![0, 0] S1x128.size inb_S1x128_S1x128_0_0))

/-- The value the body names `v165`, from the input blocks. -/
def val_v165 (X : Blocks F) : FVec F S256x512 .f32 :=
  k0_pay14 (val_v16 X) (val_v123 X) (val_v128 X) (View.ld X.w (Rect.unit (s := S4096x3072) ![0, 0] S4096x512.size inb_S4096x3072_S4096x512_0_0))

/-- The value the body names `v166`, from the input blocks. -/
def val_v166 (X : Blocks F) : Vec F S1x512 .f32 :=
  (View.ld X.ws (Rect.unit (s := S1x3072) ![0, 0] S1x512.size inb_S1x3072_S1x512_0_0))

/-- The value the body names `v203`, from the input blocks. -/
def val_v203 (X : Blocks F) : FVec F S256x512 .f32 :=
  k0_pay18 (val_v128 X) (val_v142 X) (View.ld X.w (Rect.unit (s := S4096x3072) ![0, 512] S4096x512.size inb_S4096x3072_S4096x512_0_512)) (View.ld X.ws (Rect.unit (s := S1x3072) ![0, 512] S1x512.size inb_S1x3072_S1x512_0_512))

/-- The value the body names `v204`, from the input blocks. -/
def val_v204 (X : Blocks F) : FVec F S256x128 .f32 :=
  k0_pay19 (val_v128 X) (val_v142 X) (View.ld X.w (Rect.unit (s := S4096x3072) ![0, 512] S4096x512.size inb_S4096x3072_S4096x512_0_512)) (View.ld X.ws (Rect.unit (s := S1x3072) ![0, 512] S1x512.size inb_S1x3072_S1x512_0_512))

/-- The value the body names `v205`, from the input blocks. -/
def val_v205 (X : Blocks F) : FVec F S256x128 .f32 :=
  k0_pay20 (val_v128 X) (val_v142 X) (val_v154 X) (View.ld X.w (Rect.unit (s := S4096x3072) ![0, 512] S4096x512.size inb_S4096x3072_S4096x512_0_512)) (View.ld X.ws (Rect.unit (s := S1x3072) ![0, 512] S1x512.size inb_S1x3072_S1x512_0_512))

/-- The value the body names `v237`, from the input blocks. -/
def val_v237 (X : Blocks F) : FVec F S256x512 .f32 :=
  k0_pay23 (val_v128 X) (val_v142 X) (View.ld X.w (Rect.unit (s := S4096x3072) ![0, 1024] S4096x512.size inb_S4096x3072_S4096x512_0_1024)) (View.ld X.ws (Rect.unit (s := S1x3072) ![0, 1024] S1x512.size inb_S1x3072_S1x512_0_1024))

/-- The value the body names `v242`, from the input blocks. -/
def val_v242 (X : Blocks F) : FVec F S256x128 .f32 :=
  k0_pay24 (val_v128 X) (val_v142 X) (val_v154 X) (val_v161 X) (View.ld X.w (Rect.unit (s := S4096x3072) ![0, 1024] S4096x512.size inb_S4096x3072_S4096x512_0_1024)) (View.ld X.ws (Rect.unit (s := S1x3072) ![0, 1024] S1x512.size inb_S1x3072_S1x512_0_1024))

/-- The value the body names `v243`, from the input blocks. -/
def val_v243 (X : Blocks F) : FVec F S256x128 .f32 :=
  k0_pay25 (val_v128 X) (val_v142 X) (View.ld X.w (Rect.unit (s := S4096x3072) ![0, 1024] S4096x512.size inb_S4096x3072_S4096x512_0_1024)) (View.ld X.ws (Rect.unit (s := S1x3072) ![0, 1024] S1x512.size inb_S1x3072_S1x512_0_1024))

/-- The value the body names `v271`, from the input blocks. -/
def val_v271 (X : Blocks F) : FVec F S256x512 .f32 :=
  k0_pay28 (val_v128 X) (val_v142 X) (View.ld X.w (Rect.unit (s := S4096x3072) ![0, 1536] S4096x512.size inb_S4096x3072_S4096x512_0_1536)) (View.ld X.ws (Rect.unit (s := S1x3072) ![0, 1536] S1x512.size inb_S1x3072_S1x512_0_1536))

/-- The value the body names `v276`, from the input blocks. -/
def val_v276 (X : Blocks F) : FVec F S256x128 .f32 :=
  k0_pay29 (val_v128 X) (val_v142 X) (val_v154 X) (val_v161 X) (View.ld X.w (Rect.unit (s := S4096x3072) ![0, 1536] S4096x512.size inb_S4096x3072_S4096x512_0_1536)) (View.ld X.ws (Rect.unit (s := S1x3072) ![0, 1536] S1x512.size inb_S1x3072_S1x512_0_1536))

/-- The value the body names `v281`, from the input blocks. -/
def val_v281 (X : Blocks F) : FVec F S256x128 .f32 :=
  k0_pay30 (val_v128 X) (val_v142 X) (val_v154 X) (val_v161 X) (View.ld X.w (Rect.unit (s := S4096x3072) ![0, 1536] S4096x512.size inb_S4096x3072_S4096x512_0_1536)) (View.ld X.ws (Rect.unit (s := S1x3072) ![0, 1536] S1x512.size inb_S1x3072_S1x512_0_1536))

/-- The value the body names `v305`, from the input blocks. -/
def val_v305 (X : Blocks F) : FVec F S256x512 .f32 :=
  k0_pay33 (val_v128 X) (val_v142 X) (View.ld X.w (Rect.unit (s := S4096x3072) ![0, 2048] S4096x512.size inb_S4096x3072_S4096x512_0_2048)) (View.ld X.ws (Rect.unit (s := S1x3072) ![0, 2048] S1x512.size inb_S1x3072_S1x512_0_2048))

/-- The value the body names `v310`, from the input blocks. -/
def val_v310 (X : Blocks F) : FVec F S256x128 .f32 :=
  k0_pay34 (val_v128 X) (val_v142 X) (val_v154 X) (val_v161 X) (View.ld X.w (Rect.unit (s := S4096x3072) ![0, 2048] S4096x512.size inb_S4096x3072_S4096x512_0_2048)) (View.ld X.ws (Rect.unit (s := S1x3072) ![0, 2048] S1x512.size inb_S1x3072_S1x512_0_2048))

/-- The value the body names `v315`, from the input blocks. -/
def val_v315 (X : Blocks F) : FVec F S256x128 .f32 :=
  k0_pay35 (val_v128 X) (val_v142 X) (val_v154 X) (val_v161 X) (View.ld X.w (Rect.unit (s := S4096x3072) ![0, 2048] S4096x512.size inb_S4096x3072_S4096x512_0_2048)) (View.ld X.ws (Rect.unit (s := S1x3072) ![0, 2048] S1x512.size inb_S1x3072_S1x512_0_2048))

/-- The value the body names `v317`, from the input blocks. -/
def val_v317 (X : Blocks F) : FVec F S256x128 .f32 :=
  k0_pay37 (val_v128 X) (val_v142 X) (val_v154 X) (View.ld X.w (Rect.unit (s := S4096x3072) ![0, 2048] S4096x512.size inb_S4096x3072_S4096x512_0_2048)) (View.ld X.ws (Rect.unit (s := S1x3072) ![0, 2048] S1x512.size inb_S1x3072_S1x512_0_2048))

/-- The value the body names `v319`, from the input blocks. -/
def val_v319 (X : Blocks F) : FVec F S256x128 .f32 :=
  k0_pay38 (val_v128 X) (val_v142 X) (val_v161 X) (View.ld X.w (Rect.unit (s := S4096x3072) ![0, 2048] S4096x512.size inb_S4096x3072_S4096x512_0_2048)) (View.ld X.ws (Rect.unit (s := S1x3072) ![0, 2048] S1x512.size inb_S1x3072_S1x512_0_2048))

/-- Window q's block as token rows of head pairs after the body: its 8 stores, the last one first; store `k` writes
    head pair `k` of every token. -/
def pairsQ (X : Blocks F) : Vec F S2048x2x128 .bf16 :=
  View.canon [
    ⟨⟨(⟨![7, 0, 0], S256x2x128.size, ![8, 1, 1], inb_S2048x2x128_S256x2x128_7_0_0_s_8_1_1⟩ : LoadRect S2048x2x128), spos_8_1_1⟩, (k0_pay32 (val_v154 X) (val_v161 X) (val_v271 X))⟩,
    ⟨⟨(⟨![6, 0, 0], S256x2x128.size, ![8, 1, 1], inb_S2048x2x128_S256x2x128_6_0_0_s_8_1_1⟩ : LoadRect S2048x2x128), spos_8_1_1⟩, (k0_pay31 (val_v276 X) (val_v281 X))⟩,
    ⟨⟨(⟨![5, 0, 0], S256x2x128.size, ![8, 1, 1], inb_S2048x2x128_S256x2x128_5_0_0_s_8_1_1⟩ : LoadRect S2048x2x128), spos_8_1_1⟩, (k0_pay27 (val_v154 X) (val_v161 X) (val_v237 X))⟩,
    ⟨⟨(⟨![4, 0, 0], S256x2x128.size, ![8, 1, 1], inb_S2048x2x128_S256x2x128_4_0_0_s_8_1_1⟩ : LoadRect S2048x2x128), spos_8_1_1⟩, (k0_pay26 (val_v154 X) (val_v161 X) (val_v242 X) (val_v243 X))⟩,
    ⟨⟨(⟨![3, 0, 0], S256x2x128.size, ![8, 1, 1], inb_S2048x2x128_S256x2x128_3_0_0_s_8_1_1⟩ : LoadRect S2048x2x128), spos_8_1_1⟩, (k0_pay22 (val_v154 X) (val_v161 X) (val_v203 X))⟩,
    ⟨⟨(⟨![2, 0, 0], S256x2x128.size, ![8, 1, 1], inb_S2048x2x128_S256x2x128_2_0_0_s_8_1_1⟩ : LoadRect S2048x2x128), spos_8_1_1⟩, (k0_pay21 (val_v154 X) (val_v161 X) (val_v203 X) (val_v204 X) (val_v205 X))⟩,
    ⟨⟨(⟨![1, 0, 0], S256x2x128.size, ![8, 1, 1], inb_S2048x2x128_S256x2x128_1_0_0_s_8_1_1⟩ : LoadRect S2048x2x128), spos_8_1_1⟩, (k0_pay17 (val_v154 X) (val_v161 X) (val_v165 X) (val_v166 X))⟩,
    ⟨⟨(⟨![0, 0, 0], S256x2x128.size, ![8, 1, 1], inb_S2048x2x128_S256x2x128_0_0_0_s_8_1_1⟩ : LoadRect S2048x2x128), spos_8_1_1⟩, (k0_pay16 (val_v154 X) (val_v161 X) (val_v165 X) (val_v166 X))⟩]

/-- Window q's block after the body: the head pairs read back row by row. -/
def outQ (X : Blocks F) : Vec F S4096x128 .bf16 := fun y =>
  pairsQ X ((Shape.reshapeEquiv reshapes_S4096x128_S2048x2x128.1).symm y)

/-- Window k's block as token rows of head pairs after the body: its 2 stores, the last one first; store `k` writes
    head pair `k` of every token. -/
def pairsK (X : Blocks F) : Vec F S512x2x128 .bf16 :=
  View.canon [
    ⟨⟨(⟨![1, 0, 0], S256x2x128.size, ![2, 1, 1], inb_S512x2x128_S256x2x128_1_0_0_s_2_1_1⟩ : LoadRect S512x2x128), spos_2_1_1⟩, (k0_pay40 (val_v154 X) (val_v161 X) (val_v305 X) (val_v317 X) (val_v319 X))⟩,
    ⟨⟨(⟨![0, 0, 0], S256x2x128.size, ![2, 1, 1], inb_S512x2x128_S256x2x128_0_0_0_s_2_1_1⟩ : LoadRect S512x2x128), spos_2_1_1⟩, (k0_pay39 (val_v310 X) (val_v315 X))⟩]

/-- Window k's block after the body: the head pairs read back row by row. -/
def outK (X : Blocks F) : Vec F S1024x128 .bf16 := fun y =>
  pairsK X ((Shape.reshapeEquiv reshapes_S1024x128_S512x2x128.1).symm y)

/-- Window v's block as token rows of head pairs after the body: its 2 stores, the last one first; store `k` writes
    head pair `k` of every token. -/
def pairsV (X : Blocks F) : Vec F S512x2x128 .bf16 :=
  View.canon [
    ⟨⟨(⟨![1, 0, 0], S256x2x128.size, ![2, 1, 1], inb_S512x2x128_S256x2x128_1_0_0_s_2_1_1⟩ : LoadRect S512x2x128), spos_2_1_1⟩, (k0_pay43 (val_v128 X) (val_v142 X) (View.ld X.w (Rect.unit (s := S4096x3072) ![0, 2560] S4096x512.size inb_S4096x3072_S4096x512_0_2560)) (View.ld X.ws (Rect.unit (s := S1x3072) ![0, 2560] S1x512.size inb_S1x3072_S1x512_0_2560)))⟩,
    ⟨⟨(⟨![0, 0, 0], S256x2x128.size, ![2, 1, 1], inb_S512x2x128_S256x2x128_0_0_0_s_2_1_1⟩ : LoadRect S512x2x128), spos_2_1_1⟩, (k0_pay42 (val_v128 X) (val_v142 X) (View.ld X.w (Rect.unit (s := S4096x3072) ![0, 2560] S4096x512.size inb_S4096x3072_S4096x512_0_2560)) (View.ld X.ws (Rect.unit (s := S1x3072) ![0, 2560] S1x512.size inb_S1x3072_S1x512_0_2560)))⟩]

/-- Window v's block after the body: the head pairs read back row by row. -/
def outV (X : Blocks F) : Vec F S1024x128 .bf16 := fun y =>
  pairsV X ((Shape.reshapeEquiv reshapes_S1024x128_S512x2x128.1).symm y)

/-- The 8 strided stores of window q cover its block, whatever they store. -/
theorem coverQ (p7 p6 p5 p4 p3 p2 p1 p0 : Vec F S256x2x128 .bf16) (y : S2048x2x128.Idx) :
    ∃ pc ∈ ([⟨⟨(⟨![7, 0, 0], S256x2x128.size, ![8, 1, 1], inb_S2048x2x128_S256x2x128_7_0_0_s_8_1_1⟩ : LoadRect S2048x2x128), spos_8_1_1⟩, p7⟩, ⟨⟨(⟨![6, 0, 0], S256x2x128.size, ![8, 1, 1], inb_S2048x2x128_S256x2x128_6_0_0_s_8_1_1⟩ : LoadRect S2048x2x128), spos_8_1_1⟩, p6⟩, ⟨⟨(⟨![5, 0, 0], S256x2x128.size, ![8, 1, 1], inb_S2048x2x128_S256x2x128_5_0_0_s_8_1_1⟩ : LoadRect S2048x2x128), spos_8_1_1⟩, p5⟩, ⟨⟨(⟨![4, 0, 0], S256x2x128.size, ![8, 1, 1], inb_S2048x2x128_S256x2x128_4_0_0_s_8_1_1⟩ : LoadRect S2048x2x128), spos_8_1_1⟩, p4⟩, ⟨⟨(⟨![3, 0, 0], S256x2x128.size, ![8, 1, 1], inb_S2048x2x128_S256x2x128_3_0_0_s_8_1_1⟩ : LoadRect S2048x2x128), spos_8_1_1⟩, p3⟩, ⟨⟨(⟨![2, 0, 0], S256x2x128.size, ![8, 1, 1], inb_S2048x2x128_S256x2x128_2_0_0_s_8_1_1⟩ : LoadRect S2048x2x128), spos_8_1_1⟩, p2⟩, ⟨⟨(⟨![1, 0, 0], S256x2x128.size, ![8, 1, 1], inb_S2048x2x128_S256x2x128_1_0_0_s_8_1_1⟩ : LoadRect S2048x2x128), spos_8_1_1⟩, p1⟩, ⟨⟨(⟨![0, 0, 0], S256x2x128.size, ![8, 1, 1], inb_S2048x2x128_S256x2x128_0_0_0_s_8_1_1⟩ : LoadRect S2048x2x128), spos_8_1_1⟩, p0⟩] : List (View.Piece (Elt F) S2048x2x128 .bf16)), y ∈ pc.1.set := by
  have hk : (y 0).val % 8 < 8 := Nat.mod_lt _ (by decide)
  rcases (by omega : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0) with h | h | h | h | h | h | h | h
  · exact ⟨_, .head _, Cert.Proof.mem_pair (by decide) (by decide) y h⟩
  · exact ⟨_, .tail _ (.head _), Cert.Proof.mem_pair (by decide) (by decide) y h⟩
  · exact ⟨_, .tail _ (.tail _ (.head _)), Cert.Proof.mem_pair (by decide) (by decide) y h⟩
  · exact ⟨_, .tail _ (.tail _ (.tail _ (.head _))), Cert.Proof.mem_pair (by decide) (by decide) y h⟩
  · exact ⟨_, .tail _ (.tail _ (.tail _ (.tail _ (.head _)))), Cert.Proof.mem_pair (by decide) (by decide) y h⟩
  · exact ⟨_, .tail _ (.tail _ (.tail _ (.tail _ (.tail _ (.head _))))), Cert.Proof.mem_pair (by decide) (by decide) y h⟩
  · exact ⟨_, .tail _ (.tail _ (.tail _ (.tail _ (.tail _ (.tail _ (.head _)))))), Cert.Proof.mem_pair (by decide) (by decide) y h⟩
  · exact ⟨_, .tail _ (.tail _ (.tail _ (.tail _ (.tail _ (.tail _ (.tail _ (.head _))))))), Cert.Proof.mem_pair (by decide) (by decide) y h⟩

/-- The 2 strided stores of window k cover its block, whatever they store. -/
theorem coverK (p1 p0 : Vec F S256x2x128 .bf16) (y : S512x2x128.Idx) :
    ∃ pc ∈ ([⟨⟨(⟨![1, 0, 0], S256x2x128.size, ![2, 1, 1], inb_S512x2x128_S256x2x128_1_0_0_s_2_1_1⟩ : LoadRect S512x2x128), spos_2_1_1⟩, p1⟩, ⟨⟨(⟨![0, 0, 0], S256x2x128.size, ![2, 1, 1], inb_S512x2x128_S256x2x128_0_0_0_s_2_1_1⟩ : LoadRect S512x2x128), spos_2_1_1⟩, p0⟩] : List (View.Piece (Elt F) S512x2x128 .bf16)), y ∈ pc.1.set := by
  have hk : (y 0).val % 2 < 2 := Nat.mod_lt _ (by decide)
  rcases (by omega : (y 0).val % 2 = 1 ∨ (y 0).val % 2 = 0) with h | h
  · exact ⟨_, .head _, Cert.Proof.mem_pair (by decide) (by decide) y h⟩
  · exact ⟨_, .tail _ (.head _), Cert.Proof.mem_pair (by decide) (by decide) y h⟩

/-- The 2 strided stores of window v cover its block, whatever they store. -/
theorem coverV (p1 p0 : Vec F S256x2x128 .bf16) (y : S512x2x128.Idx) :
    ∃ pc ∈ ([⟨⟨(⟨![1, 0, 0], S256x2x128.size, ![2, 1, 1], inb_S512x2x128_S256x2x128_1_0_0_s_2_1_1⟩ : LoadRect S512x2x128), spos_2_1_1⟩, p1⟩, ⟨⟨(⟨![0, 0, 0], S256x2x128.size, ![2, 1, 1], inb_S512x2x128_S256x2x128_0_0_0_s_2_1_1⟩ : LoadRect S512x2x128), spos_2_1_1⟩, p0⟩] : List (View.Piece (Elt F) S512x2x128 .bf16)), y ∈ pc.1.set := by
  have hk : (y 0).val % 2 < 2 := Nat.mod_lt _ (by decide)
  rcases (by omega : (y 0).val % 2 = 1 ∨ (y 0).val % 2 = 0) with h | h
  · exact ⟨_, .head _, Cert.Proof.mem_pair (by decide) (by decide) y h⟩
  · exact ⟨_, .tail _ (.head _), Cert.Proof.mem_pair (by decide) (by decide) y h⟩

/-- The codes window's block after the body. -/
def outCodes (X : Blocks F) : Vec F S256x4096 .fp8e4m3 :=
  View.canon [⟨(Rect.unit (s := S256x4096) ![0, 0] S256x4096.size inb_S256x4096_S256x4096_0_0), (k0_pay10 (val_v16 X) (val_v123 X))⟩]

/-- The scale window's block after the body. -/
def outScale (X : Blocks F) : Vec F S256x1 .f32 :=
  View.canon [⟨(Rect.unit (s := S256x1) ![0, 0] S256x1.size inb_S256x1_S256x1_0_0), (val_v128 X)⟩]

/-! ## The body's triple -/

set_option maxHeartbeats 1000000 in
/-- The kernel body on whole staging memrefs, the inputs' at the blocks `X` and the outputs' at anything, runs to the
    continuation holding the inputs as they were and each output at its function of the blocks. The q, k and v buffers
    are held through their head-pair views while the body runs. -/
theorem sound_kernel (c : Dev nD) (E : Set ℕ) (i : grid0.Coords) (arg1 : Memref sig .tc .vmem S256x4096 .bf16) (harg1 : arg1.IsWhole) (arg2 : Memref sig .tc .vmem S1x4096 .f32) (harg2 : arg2.IsWhole) (arg3 : Memref sig .tc .vmem S256x1 .i32) (harg3 : arg3.IsWhole) (arg4 : Memref sig .tc .vmem S1x128 .f32) (harg4 : arg4.IsWhole) (arg5 : Memref sig .tc .vmem S4096x3072 .fp8e4m3) (harg5 : arg5.IsWhole) (arg6 : Memref sig .tc .vmem S1x3072 .f32) (harg6 : arg6.IsWhole) (arg7 : Memref sig .tc .vmem S4096x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S256x4096 .fp8e4m3) (harg10 : arg10.IsWhole) (arg11 : Memref sig .tc .vmem S256x1 .f32) (harg11 : arg11.IsWhole)
    (X : Blocks F) (K : PUnit → sProp 𝕄) :
    iprop(owns (c : Thread nD τ) arg1 fullShare X.x ∗ owns (c : Thread nD τ) arg2 fullShare X.gain ∗ owns (c : Thread nD τ) arg3 fullShare X.pos ∗ owns (c : Thread nD τ) arg4 fullShare X.freq ∗ owns (c : Thread nD τ) arg5 fullShare X.w ∗ owns (c : Thread nD τ) arg6 fullShare X.ws ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare X.x ∗ owns (c : Thread nD τ) arg2 fullShare X.gain ∗ owns (c : Thread nD τ) arg3 fullShare X.pos ∗ owns (c : Thread nD τ) arg4 fullShare X.freq ∗ owns (c : Thread nD τ) arg5 fullShare X.w ∗ owns (c : Thread nD τ) arg6 fullShare X.ws ∗ owns (c : Thread nD τ) arg7 fullShare (outQ X) ∗ owns (c : Thread nD τ) arg8 fullShare (outK X) ∗ owns (c : Thread nD τ) arg9 fullShare (outV X) ∗ owns (c : Thread nD τ) arg10 fullShare (outCodes X) ∗ owns (c : Thread nD τ) arg11 fullShare (outScale X)) -∗ K ⟨⟩))
      ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11) K := by
  obtain ⟨x0, x1, x2, x3, x4, x5⟩ := X
  simp only [cc0_rmsnorm_fp8_qkv_rope_eq_skeleton]; unfold cc0_rmsnorm_fp8_qkv_rope_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  rw [← Memref.set_view_reshape arg7 reshapes_S4096x128_S2048x2x128.1 reshapes_S4096x128_S2048x2x128.2 harg7.contiguous,
    ← Memref.set_view_reshape arg8 reshapes_S1024x128_S512x2x128.1 reshapes_S1024x128_S512x2x128.2 harg8.contiguous,
    ← Memref.set_view_reshape arg9 reshapes_S1024x128_S512x2x128.1 reshapes_S1024x128_S512x2x128.2 harg9.contiguous]
  change _ ∗ _ ∗ _ ∗ _ ∗ _ ∗ _
    ∗ (∃ d, ∃ f, ⌜_⌝ ∗ (arg7.reshape S2048x2x128 reshapes_S4096x128_S2048x2x128.1 reshapes_S4096x128_S2048x2x128.2 harg7.contiguous).view.loc (c : Thread nD τ) ↦[(arg7.reshape S2048x2x128 reshapes_S4096x128_S2048x2x128.1 reshapes_S4096x128_S2048x2x128.2 harg7.contiguous).view.set]{fullShare} f)
    ∗ (∃ d, ∃ f, ⌜_⌝ ∗ (arg8.reshape S512x2x128 reshapes_S1024x128_S512x2x128.1 reshapes_S1024x128_S512x2x128.2 harg8.contiguous).view.loc (c : Thread nD τ) ↦[(arg8.reshape S512x2x128 reshapes_S1024x128_S512x2x128.1 reshapes_S1024x128_S512x2x128.2 harg8.contiguous).view.set]{fullShare} f)
    ∗ (∃ d, ∃ f, ⌜_⌝ ∗ (arg9.reshape S512x2x128 reshapes_S1024x128_S512x2x128.1 reshapes_S1024x128_S512x2x128.2 harg9.contiguous).view.loc (c : Thread nD τ) ↦[(arg9.reshape S512x2x128 reshapes_S1024x128_S512x2x128.1 reshapes_S1024x128_S512x2x128.2 harg9.contiguous).view.set]{fullShare} f)
    ∗ _ ⊢ _
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (Cert.Proof.read_of_pairs _ reshapes_S4096x128_S2048x2x128.1 (View.read_writes_eq_canon _ _ _ (fun y => ?_))).trans ?_
    · exact coverQ _ _ _ _ _ _ _ _ y
    · rfl
  isplitl [H7]
  · iexists _; isplitr
    swap; · iexact H7
    ipureintro
    refine (Cert.Proof.read_of_pairs _ reshapes_S1024x128_S512x2x128.1 (View.read_writes_eq_canon _ _ _ (fun y => ?_))).trans ?_
    · exact coverK _ _ y
    · rfl
  isplitl [H8]
  · iexists _; isplitr
    swap; · iexact H8
    ipureintro
    refine (Cert.Proof.read_of_pairs _ reshapes_S1024x128_S512x2x128.1 (View.read_writes_eq_canon _ _ _ (fun y => ?_))).trans ?_
    · exact coverV _ _ y
    · rfl
  isplitl [H9]
  · iexists _; isplitr
    swap; · iexact H9
    ipureintro
    refine (View.read_writes_eq_canon _ _ _ (View.cover_of_tiled _ S256x4096.size (by rfl))).trans ?_
    rfl
  iexists _; isplitr
  swap; · iexact H10
  ipureintro
  refine (View.read_writes_eq_canon _ _ _ (View.cover_of_tiled _ S256x1.size (by rfl))).trans ?_
  rfl

/-! ## The pipeline's proof data -/

variable (m : (ℓ : Loc nD τ sig) → Buf (Elt F) ℓ) (ρ : Dev nD → PrngReg)

/-- The six input blocks at grid point `t`, read off the arrays as the pipeline finds them. -/
def blocksAt (c : Dev nD) (t : Fin cfg0.N) : Blocks F where
  x := iblk m c 0 t
  gain := iblk m c 1 t
  pos := iblk m c 2 t
  freq := iblk m c 3 t
  w := iblk m c 4 t
  ws := iblk m c 5 t

/-- The proof data on core `c`: the arrays as the pipeline finds them, after the body at point `t` each input's buffer
    at its block and each output's at its function of the input blocks, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outQ (blocksAt m c t)
    | ⟨7, _⟩ => outK (blocksAt m c t)
    | ⟨8, _⟩ => outV (blocksAt m c t)
    | ⟨9, _⟩ => outCodes (blocksAt m c t)
    | ⟨10, _⟩ => outScale (blocksAt m c t)
  Φ _ := Pipeline.ΦA spec0 c
  q _ := fullShare
  owed _ := 0

/-- The proof data's arrays are the ones the pipeline finds. -/
theorem A_eq (c : Dev nD) (w : Fin cfg0.W) : (dats m 0 c).A w = V m c (Pipeline.arrRef spec0 w) := by
  dsimp only [dats]

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = outQ (blocksAt m c t) := by dsimp only [dats]
/-- What the body leaves in window 7. -/
theorem after0_7 (c : Dev nD) (t : Fin cfg0.N) : (dats m 0 c).after 7 t = outK (blocksAt m c t) := by dsimp only [dats]
/-- What the body leaves in window 8. -/
theorem after0_8 (c : Dev nD) (t : Fin cfg0.N) : (dats m 0 c).after 8 t = outV (blocksAt m c t) := by dsimp only [dats]
/-- What the body leaves in window 9. -/
theorem after0_9 (c : Dev nD) (t : Fin cfg0.N) : (dats m 0 c).after 9 t = outCodes (blocksAt m c t) := by dsimp only [dats]
/-- What the body leaves in window 10. -/
theorem after0_10 (c : Dev nD) (t : Fin cfg0.N) : (dats m 0 c).after 10 t = outScale (blocksAt m c t) := by dsimp only [dats]

/-- Window 0 holds its block when the body is called. -/
theorem before0_0 (c : Dev nD) (t : Fin cfg0.N) (d) : (dats m 0 c).before 0 t d = iblk m c 0 t :=
  before0_0_of m (dats m 0 c) (A_eq m c 0) (after0_0 m c) t d
/-- Window 1 holds its block when the body is called. -/
theorem before0_1 (c : Dev nD) (t : Fin cfg0.N) (d) : (dats m 0 c).before 1 t d = iblk m c 1 t :=
  before0_1_of m (dats m 0 c) (A_eq m c 1) (after0_1 m c) t d
/-- Window 2 holds its block when the body is called. -/
theorem before0_2 (c : Dev nD) (t : Fin cfg0.N) (d) : (dats m 0 c).before 2 t d = iblk m c 2 t :=
  before0_2_of m (dats m 0 c) (A_eq m c 2) (after0_2 m c) t d
/-- Window 3 holds its block when the body is called. -/
theorem before0_3 (c : Dev nD) (t : Fin cfg0.N) (d) : (dats m 0 c).before 3 t d = iblk m c 3 t :=
  before0_3_of m (dats m 0 c) (A_eq m c 3) (after0_3 m c) t d
/-- Window 4 holds its block when the body is called. -/
theorem before0_4 (c : Dev nD) (t : Fin cfg0.N) (d) : (dats m 0 c).before 4 t d = iblk m c 4 t :=
  before0_4_of m (dats m 0 c) (A_eq m c 4) (after0_4 m c) t d
/-- Window 5 holds its block when the body is called. -/
theorem before0_5 (c : Dev nD) (t : Fin cfg0.N) (d) : (dats m 0 c).before 5 t d = iblk m c 5 t :=
  before0_5_of m (dats m 0 c) (A_eq m c 5) (after0_5 m c) t d

/-! ## The body obligation, at any grid point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' memrefs hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (blocksAt m c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one, which takes unfolding
-- plain definitions in a metavariable's type
set_option backward.isDefEq.respectTransparency.types false in
set_option maxHeartbeats 800000 in
/-- The launch: every execution of @main ends, every array of the pipeline at what the proof data compute, every other
    buffer as it was found, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- `run_main_quiescent` without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end as they began and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Exponent.lean ====
/- The power-of-two scale of one row, at the ideal values: what the shift-built words denote, and the binary search
   for a row's exponent against `⌊log₂⌋`. -/
module

public import Idealize.ShloMosaic.Lib.Pointwise

@[expose] public section

noncomputable section

namespace Cert.Proof

open Idealize.ShloMosaic

/-! ## Words that are powers of two -/

/-- The f32 whose exponent field is `n + 127` and whose other bits are zero. -/
def pow2Word (n : BitVec 32) : EReal :=
  Ideal.ofBits .f32 (IntOp.shli .vector (IntOp.addi n 127#32) 23#32)

/-- The fields of the word `k <<< 23`: sign clear, exponent `k`, fraction zero. -/
theorem fields_shift (k : Fin 255) :
    ((IntOp.shli .vector (BitVec.ofNat 32 k.val) 23#32 : BitVec 32).extractLsb' 31 1 == 1#1) = false
      ∧ ((IntOp.shli .vector (BitVec.ofNat 32 k.val) 23#32 : BitVec 32).extractLsb' 23 8).toNat = k.val
      ∧ ((IntOp.shli .vector (BitVec.ofNat 32 k.val) 23#32 : BitVec 32).extractLsb' 0 23).toNat = 0 := by
  revert k
  decide +kernel

/-- A word with a clear sign, an exponent field `k` of a normal number and no fraction denotes `2 ^ (k - 127)`. -/
theorem ieee_of_fields (b : BitVec 32) (k : ℕ) (hk1 : 1 ≤ k) (hk2 : k < 255) (f1 : (b.extractLsb' 31 1 == 1#1) = false)
    (f2 : (b.extractLsb' 23 8).toNat = k) (f3 : (b.extractLsb' 0 23).toNat = 0) :
    Ideal.ieee 8 23 b = (((2 : ℝ) ^ ((k : ℤ) - 127) : ℝ) : EReal) := by
  have h1 : ¬ k = 2 ^ 8 - 1 := by omega
  have h2 : ¬ k = 0 := by omega
  unfold Ideal.ieee
  simp only [Nat.reduceAdd, f1, f2, f3, h1, h2, if_false, Bool.false_eq_true, one_mul, add_zero]
  rw [EReal.coe_eq_coe_iff, Nat.cast_pow, Nat.cast_ofNat, ← zpow_natCast, ← zpow_add₀ (by norm_num : (2 : ℝ) ≠ 0)]
  congr 1
  push_cast
  omega

/-- For an exponent of a normal number the word is that power of two. -/
theorem pow2Word_ofInt (n : ℤ) (h1 : -126 ≤ n) (h2 : n ≤ 127) :
    pow2Word (BitVec.ofInt 32 n) = (((2 : ℝ) ^ n : ℝ) : EReal) := by
  obtain ⟨k, hk⟩ : ∃ k : ℕ, n = (k : ℤ) - 127 := ⟨(n + 127).toNat, by omega⟩
  have hk1 : 1 ≤ k := by omega
  have hk2 : k < 255 := by omega
  have hw : IntOp.addi (BitVec.ofInt 32 n) 127#32 = BitVec.ofNat 32 k := by
    show BitVec.ofInt 32 n + 127#32 = _
    have e : (127#32 : BitVec 32) = BitVec.ofInt 32 127 := rfl
    rw [e, ← BitVec.ofInt_add, hk]
    have : (k : ℤ) - 127 + 127 = (k : ℤ) := by omega
    rw [this, BitVec.ofInt_natCast]
  obtain ⟨f1, f2, f3⟩ := fields_shift ⟨k, hk2⟩
  dsimp only at f1 f2 f3
  unfold pow2Word
  rw [hw, hk]
  exact ieee_of_fields _ k hk1 hk2 f1 f2 f3

/-- The smallest normal f32 is `2⁻¹²⁶`. -/
theorem ofBits_two_pow_neg_126 : Ideal.ofBits .f32 0x00800000#32 = (((2 : ℝ) ^ (-126 : ℤ) : ℝ) : EReal) := by
  rw [← pow2Word_ofInt (-126) (by omega) (by omega)]
  exact congrArg (Ideal.ofBits .f32) (by decide)

/-- `2¹²⁶` as an f32. -/
theorem ofBits_two_pow_126 : Ideal.ofBits .f32 0x7E800000#32 = (((2 : ℝ) ^ (126 : ℤ) : ℝ) : EReal) := by
  rw [← pow2Word_ofInt 126 (by omega) (by omega)]
  exact congrArg (Ideal.ofBits .f32) (by decide)

/-- `2` as an f32. -/
theorem ofBits_two : Ideal.ofBits .f32 0x40000000#32 = ((2 : ℝ) : EReal) := by
  have h := pow2Word_ofInt 1 (by omega) (by omega)
  rw [zpow_one] at h
  rw [← h]
  exact congrArg (Ideal.ofBits .f32) (by decide)

/-! ## The binary search -/

/-- One step of the search: the exponent raised by `s` when the power of two there is still at most `a`. -/
def stepWord (a : EReal) (s e : BitVec 32) : BitVec 32 :=
  if pow2Word (IntOp.addi e s) ≤ a then IntOp.addi e s else e

/-- A step on an exponent of a normal number, against the floor `L` of `a`'s logarithm. -/
theorem stepWord_ofInt (a : EReal) (L : ℤ) (hL : ∀ n : ℤ, (((2 : ℝ) ^ n : ℝ) : EReal) ≤ a ↔ n ≤ L) (e : ℤ) (s : ℕ)
    (h1 : -126 ≤ e + s) (h2 : e + s ≤ 127) :
    stepWord a (BitVec.ofNat 32 s) (BitVec.ofInt 32 e) = BitVec.ofInt 32 (if e + s ≤ L then e + s else e) := by
  have hadd : IntOp.addi (BitVec.ofInt 32 e) (BitVec.ofNat 32 s) = BitVec.ofInt 32 (e + s) := by
    show BitVec.ofInt 32 e + _ = _
    rw [BitVec.ofInt_add, BitVec.ofInt_natCast]
  unfold stepWord
  rw [hadd, pow2Word_ofInt _ h1 h2]
  simp only [hL]
  split <;> rfl

/-- The eight steps from `-126`. -/
def searchWord (a : EReal) : BitVec 32 :=
  stepWord a 1#32 (stepWord a 2#32 (stepWord a 4#32 (stepWord a 8#32 (stepWord a 16#32 (stepWord a 32#32
    (stepWord a 64#32 (stepWord a 128#32 4294967170#32)))))))

/-- The search finds the floor of the base-two logarithm of a normal number below `2¹²⁶`. -/
theorem searchWord_eq (a : EReal) (L : ℤ) (hL : ∀ n : ℤ, (((2 : ℝ) ^ n : ℝ) : EReal) ≤ a ↔ n ≤ L)
    (h1 : -126 ≤ L) (h2 : L ≤ 125) : searchWord a = BitVec.ofInt 32 L := by
  unfold searchWord
  have e0 : (4294967170#32 : BitVec 32) = BitVec.ofInt 32 (-126) := by decide
  obtain ⟨e1, he1, hs1⟩ : ∃ e1 : ℤ, stepWord a 128#32 4294967170#32 = BitVec.ofInt 32 e1
      ∧ (e1 = -126 ∨ e1 = 2) ∧ e1 ≤ L ∧ L < e1 + 128 := by
    rw [e0]; exact ⟨_, stepWord_ofInt a L hL _ 128 (by omega) (by omega), by split <;> omega, by split <;> omega, by split <;> omega⟩
  rw [he1]
  obtain ⟨e2, he2, hs2⟩ : ∃ e2 : ℤ, stepWord a 64#32 (BitVec.ofInt 32 e1) = BitVec.ofInt 32 e2
      ∧ (∃ k : ℤ, e2 + 126 = 64 * k) ∧ e2 ≤ L ∧ L < e2 + 64 := by
    refine ⟨_, stepWord_ofInt a L hL _ 64 (by omega) (by omega), ⟨((if e1 + (64 : ℕ) ≤ L then e1 + (64 : ℕ) else e1) + 126) / 64, ?_⟩, ?_, ?_⟩ <;>
      split <;> omega
  rw [he2]
  obtain ⟨⟨k2, hk2⟩, hl2, hu2⟩ := hs2
  obtain ⟨e3, he3, hs3⟩ : ∃ e3 : ℤ, stepWord a 32#32 (BitVec.ofInt 32 e2) = BitVec.ofInt 32 e3
      ∧ (∃ k : ℤ, e3 + 126 = 32 * k) ∧ e3 ≤ L ∧ L < e3 + 32 := by
    refine ⟨_, stepWord_ofInt a L hL _ 32 (by omega) (by omega), ⟨((if e2 + (32 : ℕ) ≤ L then e2 + (32 : ℕ) else e2) + 126) / 32, ?_⟩, ?_, ?_⟩ <;>
      split <;> omega
  rw [he3]
  obtain ⟨⟨k3, hk3⟩, hl3, hu3⟩ := hs3
  obtain ⟨e4, he4, hs4⟩ : ∃ e4 : ℤ, stepWord a 16#32 (BitVec.ofInt 32 e3) = BitVec.ofInt 32 e4
      ∧ (∃ k : ℤ, e4 + 126 = 16 * k) ∧ e4 ≤ L ∧ L < e4 + 16 := by
    refine ⟨_, stepWord_ofInt a L hL _ 16 (by omega) (by omega), ⟨((if e3 + (16 : ℕ) ≤ L then e3 + (16 : ℕ) else e3) + 126) / 16, ?_⟩, ?_, ?_⟩ <;>
      split <;> omega
  rw [he4]
  obtain ⟨⟨k4, hk4⟩, hl4, hu4⟩ := hs4
  obtain ⟨e5, he5, hs5⟩ : ∃ e5 : ℤ, stepWord a 8#32 (BitVec.ofInt 32 e4) = BitVec.ofInt 32 e5
      ∧ (∃ k : ℤ, e5 + 126 = 8 * k) ∧ e5 ≤ L ∧ L < e5 + 8 := by
    refine ⟨_, stepWord_ofInt a L hL _ 8 (by omega) (by omega), ⟨((if e4 + (8 : ℕ) ≤ L then e4 + (8 : ℕ) else e4) + 126) / 8, ?_⟩, ?_, ?_⟩ <;>
      split <;> omega
  rw [he5]
  obtain ⟨⟨k5, hk5⟩, hl5, hu5⟩ := hs5
  obtain ⟨e6, he6, hs6⟩ : ∃ e6 : ℤ, stepWord a 4#32 (BitVec.ofInt 32 e5) = BitVec.ofInt 32 e6
      ∧ (∃ k : ℤ, e6 + 126 = 4 * k) ∧ e6 ≤ L ∧ L < e6 + 4 := by
    refine ⟨_, stepWord_ofInt a L hL _ 4 (by omega) (by omega), ⟨((if e5 + (4 : ℕ) ≤ L then e5 + (4 : ℕ) else e5) + 126) / 4, ?_⟩, ?_, ?_⟩ <;>
      split <;> omega
  rw [he6]
  obtain ⟨⟨k6, hk6⟩, hl6, hu6⟩ := hs6
  obtain ⟨e7, he7, hs7⟩ : ∃ e7 : ℤ, stepWord a 2#32 (BitVec.ofInt 32 e6) = BitVec.ofInt 32 e7
      ∧ e7 ≤ L ∧ L < e7 + 2 := by
    refine ⟨_, stepWord_ofInt a L hL _ 2 (by omega) (by omega), ?_, ?_⟩ <;> split <;> omega
  rw [he7]
  refine (stepWord_ofInt a L hL _ 1 (by omega) (by omega)).trans (congrArg _ ?_)
  split <;> omega

/-! ## The exponent of a row -/

/-- `1/448` as an f32: the factor the row's maximum is scaled by. -/
def invMax : EReal := Ideal.ofBits .f32 0x3B124925#32

/-- The scaled maximum is a normal number below `2¹²⁶`. -/
def InRange (a : EReal) : Prop :=
  (((2 : ℝ) ^ (-126 : ℤ) : ℝ) : EReal) ≤ a ∧ a < (((2 : ℝ) ^ (126 : ℤ) : ℝ) : EReal)

open Classical in
/-- The exponent of the scale of a row whose largest absolute value is `amax`: `⌊log₂ (amax / 448)⌋ + 1` in the normal
    range, zero outside it and for a row of zeros. -/
def expo (amax : EReal) : ℤ :=
  if amax = 0 then 0 else if InRange (amax * invMax) then ⌊Real.log (amax * invMax).toReal / Real.log 2⌋ + 1 else 0

/-- In the normal range a power of two is at most `a` exactly when its exponent is at most `⌊log₂ a⌋`; and that floor
    lies between -126 and 125. -/
theorem inRange_log {a : EReal} (h : InRange a) :
    ∃ r : ℝ, 0 < r ∧ a = (r : EReal) ∧ (∀ n : ℤ, (((2 : ℝ) ^ n : ℝ) : EReal) ≤ a ↔ n ≤ ⌊Real.log a.toReal / Real.log 2⌋)
      ∧ -126 ≤ ⌊Real.log a.toReal / Real.log 2⌋ ∧ ⌊Real.log a.toReal / Real.log 2⌋ ≤ 125 := by
  obtain ⟨h1, h2⟩ := h
  have htop : a ≠ ⊤ := h2.ne_top
  have hbot : a ≠ ⊥ := fun hb => by rw [hb] at h1; exact absurd (le_bot_iff.1 h1) (EReal.coe_ne_bot _)
  obtain ⟨r, rfl⟩ : ∃ r : ℝ, a = (r : EReal) := ⟨a.toReal, (EReal.coe_toReal htop hbot).symm⟩
  rw [EReal.coe_le_coe_iff] at h1
  rw [EReal.coe_lt_coe_iff] at h2
  have hr : 0 < r := lt_of_lt_of_le (zpow_pos (by norm_num) _) h1
  have key : ∀ n : ℤ, (2 : ℝ) ^ n ≤ r ↔ n ≤ ⌊Real.log r / Real.log 2⌋ := fun n => by
    rw [Int.le_floor, le_div_iff₀ (Real.log_pos (by norm_num)), ← Real.log_zpow,
      Real.log_le_log_iff (zpow_pos (by norm_num) _) hr]
  refine ⟨r, hr, rfl, fun n => ?_, ?_, ?_⟩
  · rw [EReal.coe_le_coe_iff, EReal.toReal_coe]; exact key n
  · rw [EReal.toReal_coe]; exact (key _).1 h1
  · rw [EReal.toReal_coe]
    by_contra hc
    exact absurd ((key 126).2 (by omega)) (not_le.2 h2)

/-- The exponent is that of a normal number, and so is its negation. -/
theorem expo_bounds (amax : EReal) : -125 ≤ expo amax ∧ expo amax ≤ 126 := by
  unfold expo
  split
  · omega
  · split
    · rename_i h
      obtain ⟨_, _, _, _, h1, h2⟩ := inRange_log h
      omega
    · omega

/-- The kernel's exponent word of a row. -/
theorem expoWord_eq (amax : EReal) :
    (if amax = 0 then 0#32 else
      Scalar.select (IntOp.andi (BitVec.ofBool (decide (Ideal.ofBits .f32 8388608#32 ≤ amax * invMax)))
          (BitVec.ofBool (decide (amax * invMax < Ideal.ofBits .f32 2122317824#32))))
        (IntOp.addi (searchWord (amax * invMax)) 1#32) 0#32) = BitVec.ofInt 32 (expo amax) := by
  unfold expo
  split
  · rfl
  · rw [ofBits_two_pow_neg_126, ofBits_two_pow_126]
    by_cases h : InRange (amax * invMax)
    · obtain ⟨_, _, _, hL, h1, h2⟩ := inRange_log h
      rw [if_pos h, searchWord_eq _ _ hL h1 h2, decide_eq_true h.1, decide_eq_true h.2, BitVec.ofInt_add]
      rfl
    · rw [if_neg h]
      have : ¬ ((((2 : ℝ) ^ (-126 : ℤ) : ℝ) : EReal) ≤ amax * invMax) ∨ ¬ (amax * invMax < (((2 : ℝ) ^ (126 : ℤ) : ℝ) : EReal)) := by
        by_contra hc; push Not at hc; exact h hc
      rcases this with hn | hn
      · rw [decide_eq_false hn]
        cases decide (amax * invMax < (((2 : ℝ) ^ (126 : ℤ) : ℝ) : EReal)) <;> rfl
      · rw [decide_eq_false hn]
        cases decide ((((2 : ℝ) ^ (-126 : ℤ) : ℝ) : EReal) ≤ amax * invMax) <;> rfl

/-- The reference's exponent of a row, as a float. -/
theorem expoReal_eq (amax : EReal) :
    (if amax = 0 then (0 : EReal) else
      Scalar.select (IntOp.andi (BitVec.ofBool (decide (Ideal.ofBits .f32 8388608#32 ≤ amax * invMax)))
          (BitVec.ofBool (decide (amax * invMax < Ideal.ofBits .f32 2122317824#32))))
        (Ideal.liftRound Int.floor (Ideal.div (Ideal.log (amax * invMax)) (Ideal.log (Ideal.ofBits .f32 1073741824#32)))
          + 1) 0) = (((expo amax : ℤ) : ℝ) : EReal) := by
  unfold expo
  split
  · simp
  · rw [ofBits_two_pow_neg_126, ofBits_two_pow_126, ofBits_two]
    by_cases h : InRange (amax * invMax)
    · obtain ⟨r, hr, hr', hL, h1, h2⟩ := inRange_log h
      rw [if_pos h, decide_eq_true h.1, decide_eq_true h.2]
      show Ideal.liftRound Int.floor _ + 1 = _
      have hl2 : Real.log 2 ≠ 0 := (Real.log_pos (by norm_num)).ne'
      rw [hr', Ideal.log_coe, Ideal.log_coe, if_neg (not_le.2 hr), if_neg (by norm_num : ¬ (2 : ℝ) ≤ 0), EReal.toReal_coe]
      unfold Ideal.div
      rw [if_neg (by exact_mod_cast hl2), ← EReal.coe_inv, ← EReal.coe_mul]
      show (((⌊_⌋ : ℤ) : ℝ) : EReal) + 1 = _
      rw [← div_eq_mul_inv]
      show (((⌊Real.log r / Real.log 2⌋ : ℤ) : ℝ) : EReal) + 1 = _
      push_cast
      rfl
    · rw [if_neg h]
      have : ¬ ((((2 : ℝ) ^ (-126 : ℤ) : ℝ) : EReal) ≤ amax * invMax) ∨ ¬ (amax * invMax < (((2 : ℝ) ^ (126 : ℤ) : ℝ) : EReal)) := by
        by_contra hc; push Not at hc; exact h hc
      have key : ∀ p q : Bool, (p = false ∨ q = false) → ∀ x : EReal,
          Scalar.select (IntOp.andi (BitVec.ofBool p) (BitVec.ofBool q)) x (0 : EReal) = (((0 : ℤ) : ℝ) : EReal) := by
        intro p q hpq x
        rw [show (((0 : ℤ) : ℝ) : EReal) = 0 by simp]
        rcases hpq with rfl | rfl
        · cases q <;> rfl
        · cases p <;> rfl
      exact key _ _ (this.imp decide_eq_false decide_eq_false) _

/-- The scale of a row: two to its exponent. -/
def scaleOf (amax : EReal) : EReal := (((2 : ℝ) ^ (expo amax) : ℝ) : EReal)

/-- The reciprocal of a row's scale. -/
def invScaleOf (amax : EReal) : EReal := (((2 : ℝ) ^ (-expo amax) : ℝ) : EReal)

/-- The kernel's scale word is the scale. -/
theorem pow2Word_expo (amax : EReal) : pow2Word (BitVec.ofInt 32 (expo amax)) = scaleOf amax :=
  pow2Word_ofInt _ (by have := expo_bounds amax; omega) (by have := expo_bounds amax; omega)

/-- The kernel's word of the negated exponent is the reciprocal of the scale. -/
theorem pow2Word_neg_expo (amax : EReal) :
    pow2Word (IntOp.subi 0#32 (BitVec.ofInt 32 (expo amax))) = invScaleOf amax := by
  have : IntOp.subi 0#32 (BitVec.ofInt 32 (expo amax)) = BitVec.ofInt 32 (-expo amax) := by
    show 0#32 - _ = _
    rw [BitVec.ofInt_neg, BitVec.zero_sub]
  rw [this]
  exact pow2Word_ofInt _ (by have := expo_bounds amax; omega) (by have := expo_bounds amax; omega)

/-- The reference's `exp2` of the exponent is the scale. -/
theorem exp2_expo (amax : EReal) : Ideal.exp2 (((expo amax : ℤ) : ℝ) : EReal) = scaleOf amax := by
  rw [Ideal.exp2_coe]
  exact congrArg _ (Real.rpow_intCast 2 _)

/-- The reference's `exp2` of the negated exponent is the reciprocal of the scale. -/
theorem exp2_neg_expo (amax : EReal) : Ideal.exp2 (0 - (((expo amax : ℤ) : ℝ) : EReal)) = invScaleOf amax := by
  rw [zero_sub, ← EReal.coe_neg, Ideal.exp2_coe, ← Int.cast_neg]
  exact congrArg _ (Real.rpow_intCast 2 _)

end Cert.Proof

end
-- ==== Proof.Spec.lean ====
/- What the five results are, one row of tokens at a time, over plain functions into the extended reals: the normed row,
   its largest absolute value, its codes, the projection onto one column, and the rotary embedding of one head. Both
   programs are read against these. -/
module

public import proofs.«01_k».proof.Proof.Exponent

@[expose] public section

noncomputable section

namespace Cert.Proof

open Idealize.ShloMosaic

/-- Entry `k` of the RMS-normed row `x` with gain `g`. -/
def hRow (x g : Fin 4096 → EReal) (k : Fin 4096) : EReal :=
  x k * Ideal.rsqrt (Ideal.div (∑ i, x i * x i) (Ideal.ofBits .f32 1166016512#32) + Ideal.ofBits .f32 897988541#32) * g k

/-- The largest absolute value of the normed row. -/
def amaxRow (x g : Fin 4096 → EReal) : EReal :=
  Finset.fold max (Ideal.ofBits .f32 4286578688#32) (fun k => FloatOps.absf (F := Ideal) (φ := .f32) (hRow x g k)) Finset.univ

/-- Entry `k` of the row's codes: the normed entry over the scale, clipped to ±448. -/
def codeRow (x g : Fin 4096 → EReal) (k : Fin 4096) : EReal :=
  min (Ideal.ofBits .f32 1138753536#32) (max (Ideal.ofBits .f32 3286237184#32) (hRow x g k * invScaleOf (amaxRow x g)))

/-- A function of the columns of the weights, as a function of any number (zero past the last column). -/
def cols (f : Fin 3072 → EReal) (n : ℕ) : EReal := if h : n < 3072 then f ⟨n, h⟩ else 0

/-- Below the last column it is the function. -/
theorem cols_of_lt (f : Fin 3072 → EReal) (n : ℕ) (h : n < 3072) : cols f n = f ⟨n, h⟩ := dif_pos h

/-- The projection of the row onto column `n`: the codes times the column, times the two scales. -/
def qkvRow (x g : Fin 4096 → EReal) (w : Fin 4096 → Fin 3072 → EReal) (ws : Fin 3072 → EReal) (n : ℕ) : EReal :=
  (∑ i, codeRow x g i * cols (w i) n) * scaleOf (amaxRow x g) * cols ws n

/-- A function of the 64 frequencies, as a function of any number. -/
def freqs (f : Fin 64 → EReal) (n : ℕ) : EReal := f ⟨n % 64, Nat.mod_lt _ (by decide)⟩

/-- The rotation angle of entry `j` of a head at position `p`. -/
def angle (p : BitVec 32) (f : Fin 64 → EReal) (j : ℕ) : EReal :=
  FloatOps.sitofp (F := Ideal) .f32 p * freqs f j

/-- Entry `j` of a head `t` after the rotary embedding at angles `a`. -/
def rope (t a : ℕ → EReal) (j : ℕ) : EReal :=
  t j * Ideal.cos (a j) + (if j < 64 then 0 - t (64 + j) else t (j - 64)) * Ideal.sin (a j)

/-- The other spelling of the embedding: the head rolled by half its width, against the sine with its sign moved. -/
theorem rope_rolled (t a : ℕ → EReal) (j : Fin 128) :
    t j.val * Ideal.cos (a j.val) + t ((j.val + 128 - 64) % 128)
        * Scalar.select (IntOp.cmpi .slt (BitVec.ofNat 32 j.val) 64#32) (0 - Ideal.sin (a j.val)) (Ideal.sin (a j.val))
      = rope t a j.val := by
  have hs : IntOp.cmpi .slt (BitVec.ofNat 32 j.val) 64#32 = BitVec.ofBool (decide (j.val < 64)) := by
    revert j; decide
  have hj := j.isLt
  unfold rope
  rw [hs]
  by_cases h : j.val < 64
  · rw [decide_eq_true h, if_pos h]
    have e : (j.val + 128 - 64) % 128 = 64 + j.val := by omega
    rw [e]
    show _ + t (64 + j.val) * (0 - Ideal.sin (a j.val)) = _
    rw [zero_sub, zero_sub, mul_neg, neg_mul]
  · rw [decide_eq_false h, if_neg h]
    have e : (j.val + 128 - 64) % 128 = j.val - 64 := by omega
    rw [e]
    rfl

end Cert.Proof

end
-- ==== Proof.KernelRows.lean ====
/- The kernel's body at the ideal values, read row by row: each of its values at an index is the row function of
   `Spec.lean` of that block row. -/
module

public import proofs.«01_k».proof.Proof.KernelIdealRun
public import proofs.«01_k».proof.Proof.Spec

@[expose] public section

set_option maxRecDepth 16384

noncomputable section

namespace Cert.KernelIdeal.Run

open Cert.KernelIdeal Cert.KernelIdeal.Gen Cert.Proof
open Idealize.ShloMosaic

variable (X : Blocks Ideal)

/-- Row `r` of the block of activations. -/
def Blocks.row (r : Fin 256) : Fin 4096 → EReal := fun k => X.x (ix2 r k)

/-- The gain. -/
def Blocks.gainRow : Fin 4096 → EReal := fun k => X.gain (ix2 0 k)

/-- The weights. -/
def Blocks.wts : Fin 4096 → Fin 3072 → EReal := fun k c => X.w (ix2 k c)

/-- The weights' scales. -/
def Blocks.wss : Fin 3072 → EReal := fun c => X.ws (ix2 0 c)

/-- The largest absolute value of row `r`. -/
def Blocks.amax (r : Fin 256) : EReal := amaxRow (X.row r) X.gainRow

/-- The projection of row `r` onto column `n`. -/
def Blocks.qkv (r : Fin 256) (n : ℕ) : EReal := qkvRow (X.row r) X.gainRow X.wts X.wss n

/-- A load of a whole buffer reads it. -/
theorem hz2 : (![0, 0] : Fin 2 → Nat) = fun _ => 0 := funext fun a => by fin_cases a <;> rfl

/-! ## The norm, the maximum and the exponent -/

/-- The normed block. -/
theorem v16_apply (r : Fin 256) (k : Fin 4096) : val_v16 X (ix2 r k) = hRow (X.row r) X.gainRow k := by
  unfold val_v16
  rw [View.ld_unit_zero hz2, View.ld_unit_zero hz2]
  pointwise [k0_pay1]
  rfl

/-- The row maxima. -/
theorem v19_apply (r : Fin 256) : val_v19 X (ix2 r 0) = X.amax r := by
  unfold val_v19
  rw [View.ld_unit_zero hz2, View.ld_unit_zero hz2]
  pointwise [k0_pay2, k0_pay1]
  rfl

/-- The scaled maxima are the maxima times the factor. -/
theorem v21_apply (r : Fin 256) : val_v21 X (ix2 r 0) = X.amax r * invMax := by
  rw [← v19_apply]
  unfold val_v21 val_v19
  generalize View.ld X.x _ = x
  generalize View.ld X.gain _ = g
  unfold k0_pay3
  generalize k0_pay2 x g = v19
  pointwise
  rfl

/-- The search's first step. -/
theorem v33_apply (r : Fin 256) : val_v33 X (ix2 r 0) = stepWord (X.amax r * invMax) 128#32 4294967170#32 := by
  rw [← v21_apply]
  unfold val_v33 val_v21
  generalize View.ld X.x _ = x
  generalize View.ld X.gain _ = g
  unfold k0_pay4
  generalize k0_pay3 x g = v21
  pointwise
  rfl

/-- The comparison of the search's second step. -/
theorem v41_apply (r : Fin 256) : val_v41 X (ix2 r 0)
    = BitVec.ofBool (decide (pow2Word (IntOp.addi (val_v33 X (ix2 r 0)) 64#32) ≤ X.amax r * invMax)) := by
  rw [← v21_apply]
  unfold val_v41 val_v33 val_v21
  generalize View.ld X.x _ = x
  generalize View.ld X.gain _ = g
  unfold k0_pay5
  generalize k0_pay4 x g = v33
  generalize k0_pay3 x g = v21
  pointwise
  rfl

/-- A select on a comparison is a conditional. -/
theorem select_step (a : EReal) (e s : BitVec 32) :
    Scalar.select (BitVec.ofBool (decide (pow2Word (IntOp.addi e s) ≤ a))) (IntOp.addi e s) e = stepWord a s e := by
  unfold stepWord
  by_cases h : pow2Word (IntOp.addi e s) ≤ a
  · rw [if_pos h, decide_eq_true h]; rfl
  · rw [if_neg h, decide_eq_false h]; rfl

/-- The steps of the search in the body's second part. -/
theorem pay6_apply (v21 : FVec Ideal S256x1 .f32) (v33 : IVec S256x1 32) (v41 : IVec S256x1 1) (r : Fin 256) :
    k0_pay6 v21 v33 v41 (ix2 r 0)
      = stepWord (v21 (ix2 r 0)) 8#32 (stepWord (v21 (ix2 r 0)) 16#32 (stepWord (v21 (ix2 r 0)) 32#32
          (Scalar.select (v41 (ix2 r 0)) (IntOp.addi (v33 (ix2 r 0)) 64#32) (v33 (ix2 r 0))))) := by
  pointwise [k0_pay6, stepWord, pow2Word]

/-- After five steps. -/
theorem v77_apply (r : Fin 256) : val_v77 X (ix2 r 0)
    = stepWord (X.amax r * invMax) 8#32 (stepWord (X.amax r * invMax) 16#32 (stepWord (X.amax r * invMax) 32#32
        (stepWord (X.amax r * invMax) 64#32 (stepWord (X.amax r * invMax) 128#32 4294967170#32)))) := by
  unfold val_v77
  rw [pay6_apply, v21_apply, v41_apply, select_step, v33_apply]

/-- The comparison of the sixth step, over the values of the first two. -/
theorem pay7_apply (v21 : FVec Ideal S256x1 .f32) (v33 : IVec S256x1 32) (v41 : IVec S256x1 1) (r : Fin 256) :
    k0_pay7 v21 v33 v41 (ix2 r 0)
      = BitVec.ofBool (decide (pow2Word (IntOp.addi (k0_pay6 v21 v33 v41 (ix2 r 0)) 4#32) ≤ v21 (ix2 r 0))) := by
  unfold k0_pay7
  generalize k0_pay6 v21 v33 v41 = v77
  pointwise [pow2Word]

/-- The comparison of the sixth step. -/
theorem v85_apply (r : Fin 256) : val_v85 X (ix2 r 0)
    = BitVec.ofBool (decide (pow2Word (IntOp.addi (val_v77 X (ix2 r 0)) 4#32) ≤ X.amax r * invMax)) := by
  rw [← v21_apply]
  unfold val_v85 val_v77
  exact pay7_apply _ _ _ r

/-- The search's end and the three conditions on the exponent. -/
theorem pay8_apply (v19 v21 : FVec Ideal S256x1 .f32) (v77 : IVec S256x1 32) (v85 : IVec S256x1 1) (r : Fin 256) :
    k0_pay8 v19 v21 v77 v85 (ix2 r 0)
      = if v19 (ix2 r 0) = 0 then 0#32 else
        Scalar.select (IntOp.andi (BitVec.ofBool (decide (Ideal.ofBits .f32 8388608#32 ≤ v21 (ix2 r 0))))
            (BitVec.ofBool (decide (v21 (ix2 r 0) < Ideal.ofBits .f32 2122317824#32))))
          (IntOp.addi (stepWord (v21 (ix2 r 0)) 1#32 (stepWord (v21 (ix2 r 0)) 2#32
            (Scalar.select (v85 (ix2 r 0)) (IntOp.addi (v77 (ix2 r 0)) 4#32) (v77 (ix2 r 0))))) 1#32) 0#32 := by
  pointwise [k0_pay8, stepWord, pow2Word]

/-- The exponents. -/
theorem v123_apply (r : Fin 256) : val_v123 X (ix2 r 0) = BitVec.ofInt 32 (expo (X.amax r)) := by
  unfold val_v123
  rw [pay8_apply, v21_apply, v19_apply, v85_apply, select_step, v77_apply, ← expoWord_eq]
  rfl

/-- The scales. -/
theorem v128_apply (r : Fin 256) : val_v128 X (ix2 r 0) = scaleOf (X.amax r) := by
  rw [← pow2Word_expo, ← v123_apply]
  unfold val_v128 k0_pay9 val_v123
  generalize k0_pay8 (val_v19 X) (val_v21 X) (val_v77 X) (val_v85 X) = e
  pointwise
  rfl

/-- The codes. -/
theorem v142_apply (r : Fin 256) (k : Fin 4096) : val_v142 X (ix2 r k) = codeRow (X.row r) X.gainRow k := by
  have h1 := pow2Word_neg_expo (X.amax r)
  rw [← v123_apply] at h1
  unfold codeRow
  rw [← v16_apply]
  change _ = min _ (max _ (val_v16 X (ix2 r k) * invScaleOf (X.amax r)))
  rw [← h1]
  unfold val_v142
  generalize val_v16 X = h
  generalize val_v123 X = e
  pointwise [k0_pay10, pow2Word]

/-! ## The projection, 512 columns at a time -/

/-- A 512-column group of the projection at an index, from codes and scales that are the row functions. -/
theorem group_apply (r : Fin 256) (c : Fin 512) (o : ℕ) (ho : o + 512 ≤ 3072) (wl : Fin 4096 → EReal) (s : EReal)
    (hw : ∀ i, wl i = X.w (ix2 i ⟨o + c.val, by omega⟩)) (hs : s = X.ws (ix2 0 ⟨o + c.val, by omega⟩)) :
    (∑ i, val_v142 X (ix2 r i) * wl i) * val_v128 X (ix2 r 0) * s = X.qkv r (o + c.val) := by
  unfold Blocks.qkv qkvRow
  rw [v128_apply, hs, cols_of_lt _ _ (by omega)]
  congr 2
  refine Finset.sum_congr rfl fun i _ => ?_
  rw [v142_apply, hw, cols_of_lt _ _ (by omega)]
  rfl

/-- Columns 0 to 511. -/
theorem v165_apply (r : Fin 256) (c : Fin 512) : k0_pay15 (val_v165 X) (val_v166 X) (ix2 r c) = X.qkv r c.val := by
  rw [← Nat.zero_add c.val, ← group_apply X r c 0 (by omega) (fun i => X.w (ix2 i ⟨0 + c.val, by omega⟩)) _ (fun _ => rfl) rfl]
  unfold val_v165 k0_pay14 val_v142
  generalize k0_pay10 (val_v16 X) (val_v123 X) = v142
  generalize val_v128 X = v128
  pointwise [k0_pay15, val_v166, View.ld]

/-- Columns 512 to 1023. -/
theorem v203_apply (r : Fin 256) (c : Fin 512) : val_v203 X (ix2 r c) = X.qkv r (512 + c.val) := by
  rw [← group_apply X r c 512 (by omega) (fun i => X.w (ix2 i ⟨512 + c.val, by omega⟩)) _ (fun _ => rfl) rfl]
  unfold val_v203
  generalize val_v142 X = v142
  generalize val_v128 X = v128
  pointwise [k0_pay18, View.ld]

/-- Columns 1024 to 1535. -/
theorem v237_apply (r : Fin 256) (c : Fin 512) : val_v237 X (ix2 r c) = X.qkv r (1024 + c.val) := by
  rw [← group_apply X r c 1024 (by omega) (fun i => X.w (ix2 i ⟨1024 + c.val, by omega⟩)) _ (fun _ => rfl) rfl]
  unfold val_v237
  generalize val_v142 X = v142
  generalize val_v128 X = v128
  pointwise [k0_pay23, View.ld]

/-- Columns 1536 to 2047. -/
theorem v271_apply (r : Fin 256) (c : Fin 512) : val_v271 X (ix2 r c) = X.qkv r (1536 + c.val) := by
  rw [← group_apply X r c 1536 (by omega) (fun i => X.w (ix2 i ⟨1536 + c.val, by omega⟩)) _ (fun _ => rfl) rfl]
  unfold val_v271
  generalize val_v142 X = v142
  generalize val_v128 X = v128
  pointwise [k0_pay28, View.ld]

/-- Columns 2048 to 2559. -/
theorem v305_apply (r : Fin 256) (c : Fin 512) : val_v305 X (ix2 r c) = X.qkv r (2048 + c.val) := by
  rw [← group_apply X r c 2048 (by omega) (fun i => X.w (ix2 i ⟨2048 + c.val, by omega⟩)) _ (fun _ => rfl) rfl]
  unfold val_v305
  generalize val_v142 X = v142
  generalize val_v128 X = v128
  pointwise [k0_pay33, View.ld]

/-- Columns 2560 to 3071. -/
def valV : FVec Ideal S256x512 .f32 :=
  k0_pay41 (val_v128 X) (val_v142 X) (View.ld X.w (Rect.unit (s := S4096x3072) ![0, 2560] S4096x512.size inb_S4096x3072_S4096x512_0_2560)) (View.ld X.ws (Rect.unit (s := S1x3072) ![0, 2560] S1x512.size inb_S1x3072_S1x512_0_2560))

/-- They are the projection there. -/
theorem valV_apply (r : Fin 256) (c : Fin 512) : valV X (ix2 r c) = X.qkv r (2560 + c.val) := by
  rw [← group_apply X r c 2560 (by omega) (fun i => X.w (ix2 i ⟨2560 + c.val, by omega⟩)) _ (fun _ => rfl) rfl]
  unfold valV
  generalize val_v142 X = v142
  generalize val_v128 X = v128
  pointwise [k0_pay41, View.ld]

/-! ## The rotary embedding's factors -/

/-- The angle of entry `j` at row `r`'s position, by the block's 128 frequencies. -/
def Blocks.ang (r : Fin 256) (j : Fin 128) : EReal :=
  FloatOps.sitofp (F := Ideal) .f32 (X.pos (ix2 r 0)) * X.freq (ix2 0 j)

/-- The cosines. -/
theorem v154_apply (r : Fin 256) (j : Fin 128) : val_v154 X (ix2 r j) = Ideal.cos (X.ang r j) := by
  unfold val_v154
  rw [View.ld_unit_zero hz2, View.ld_unit_zero hz2]
  pointwise [k0_pay12, k0_pay11, Blocks.ang]

/-- The sines with their signs. -/
theorem v161_apply (r : Fin 256) (j : Fin 128) : val_v161 X (ix2 r j)
    = Scalar.select (IntOp.cmpi .slt (BitVec.ofNat 32 j.val) 64#32) (0 - Ideal.sin (X.ang r j)) (Ideal.sin (X.ang r j)) := by
  unfold val_v161
  rw [View.ld_unit_zero hz2, View.ld_unit_zero hz2]
  pointwise [k0_pay13, k0_pay11, Blocks.ang]

end Cert.KernelIdeal.Run

end
-- ==== Proof.KernelPairs.lean ====
/- What the kernel leaves in its output blocks at the ideal values: token row by token row and head by head, the codes and
   the scales of the row functions, and the heads of `Spec.lean`. -/
module

public import proofs.«01_k».proof.Proof.KernelRows

@[expose] public section

set_option maxRecDepth 16384

noncomputable section

namespace Cert.KernelIdeal.Run

open Cert.KernelIdeal Cert.KernelIdeal.Gen Cert.Proof
open Idealize.ShloMosaic

variable (X : Blocks Ideal)

/-! ## One head -/

/-- Entry `j` of the rotated head that starts at column `c`, for block row `r`, at the 64 frequencies `f`. -/
def Blocks.roped (f : Fin 64 → EReal) (r : Fin 256) (c j : ℕ) : EReal :=
  rope (fun i => X.qkv r (c + i)) (angle (X.pos (ix2 r 0)) f) j

/-- The block's frequencies are the 64 frequencies twice. -/
def Blocks.Twice (f : Fin 64 → EReal) : Prop := ∀ j : Fin 128, X.freq (ix2 0 j) = freqs f j.val

/-- The body's spelling of one entry of a rotated head: the entry times the cosine, plus the entry half a head away
    times the signed sine. -/
theorem roped_eq {f : Fin 64 → EReal} (hf : X.Twice f) (r : Fin 256) (j : Fin 128) (c n₁ n₂ : ℕ)
    (h₁ : n₁ = c + j.val) (h₂ : n₂ = c + (j.val + 128 - 64) % 128) :
    X.qkv r n₁ * val_v154 X (ix2 r j) + X.qkv r n₂ * val_v161 X (ix2 r j) = X.roped f r c j.val := by
  have ha : X.ang r j = angle (X.pos (ix2 r 0)) f j.val := by unfold Blocks.ang angle; rw [hf j]
  rw [v154_apply, v161_apply, ha, h₁, h₂]
  exact rope_rolled (fun i => X.qkv r (c + i)) (angle (X.pos (ix2 r 0)) f) j

/-- The two heads of a stored pair. -/
theorem fin2_cases {p : Fin 2 → Prop} (h0 : p 0) (h1 : p 1) (b : Fin 2) : p b := by
  match b with
  | 0 => exact h0
  | 1 => exact h1

/-! ## The stored pairs of heads -/

/-- The body's name of columns 512 to 1023. -/
theorem v203_fold : k0_pay18 (val_v128 X) (val_v142 X) (View.ld X.w (Rect.unit (s := S4096x3072) ![0, 512] S4096x512.size inb_S4096x3072_S4096x512_0_512)) (View.ld X.ws (Rect.unit (s := S1x3072) ![0, 512] S1x512.size inb_S1x3072_S1x512_0_512)) = val_v203 X := rfl

/-- The body's name of columns 1024 to 1535. -/
theorem v237_fold : k0_pay23 (val_v128 X) (val_v142 X) (View.ld X.w (Rect.unit (s := S4096x3072) ![0, 1024] S4096x512.size inb_S4096x3072_S4096x512_0_1024)) (View.ld X.ws (Rect.unit (s := S1x3072) ![0, 1024] S1x512.size inb_S1x3072_S1x512_0_1024)) = val_v237 X := rfl

/-- The body's name of columns 1536 to 2047. -/
theorem v271_fold : k0_pay28 (val_v128 X) (val_v142 X) (View.ld X.w (Rect.unit (s := S4096x3072) ![0, 1536] S4096x512.size inb_S4096x3072_S4096x512_0_1536)) (View.ld X.ws (Rect.unit (s := S1x3072) ![0, 1536] S1x512.size inb_S1x3072_S1x512_0_1536)) = val_v271 X := rfl

/-- The body's name of columns 2048 to 2559. -/
theorem v305_fold : k0_pay33 (val_v128 X) (val_v142 X) (View.ld X.w (Rect.unit (s := S4096x3072) ![0, 2048] S4096x512.size inb_S4096x3072_S4096x512_0_2048)) (View.ld X.ws (Rect.unit (s := S1x3072) ![0, 2048] S1x512.size inb_S1x3072_S1x512_0_2048)) = val_v305 X := rfl

/-- Heads 0 and 1. -/
theorem pair0_apply {f : Fin 64 → EReal} (hf : X.Twice f) (r : Fin 256) (b : Fin 2) (j : Fin 128) :
    k0_pay16 (val_v154 X) (val_v161 X) (val_v165 X) (val_v166 X) (ix3 r b j) = X.roped f r (128 * (0 + b.val)) j.val := by
  have hj := j.isLt
  pointwise [k0_pay16]
  simp only [v165_apply]
  revert b
  refine fin2_cases ?_ ?_ <;> exact roped_eq X hf r j _ _ _ (by first | omega | (simp only [Fin.val_zero, Fin.val_one]; omega) | simp only [Fin.val_zero, Fin.val_one]) (by first | omega | (simp only [Fin.val_zero, Fin.val_one]; omega) | simp only [Fin.val_zero, Fin.val_one])

/-- Heads 2 and 3. -/
theorem pair1_apply {f : Fin 64 → EReal} (hf : X.Twice f) (r : Fin 256) (b : Fin 2) (j : Fin 128) :
    k0_pay17 (val_v154 X) (val_v161 X) (val_v165 X) (val_v166 X) (ix3 r b j) = X.roped f r (128 * (2 + b.val)) j.val := by
  have hj := j.isLt
  pointwise [k0_pay17]
  simp only [v165_apply]
  revert b
  refine fin2_cases ?_ ?_ <;> exact roped_eq X hf r j _ _ _ (by first | omega | (simp only [Fin.val_zero, Fin.val_one]; omega) | simp only [Fin.val_zero, Fin.val_one]) (by first | omega | (simp only [Fin.val_zero, Fin.val_one]; omega) | simp only [Fin.val_zero, Fin.val_one])

/-- Heads 4 and 5. -/
theorem pair2_apply {f : Fin 64 → EReal} (hf : X.Twice f) (r : Fin 256) (b : Fin 2) (j : Fin 128) :
    k0_pay21 (val_v154 X) (val_v161 X) (val_v203 X) (val_v204 X) (val_v205 X) (ix3 r b j) = X.roped f r (128 * (4 + b.val)) j.val := by
  have hj := j.isLt
  pointwise [k0_pay21, val_v204, val_v205, k0_pay19, k0_pay20]
  simp only [v203_fold, v203_apply]
  revert b
  refine fin2_cases ?_ ?_ <;> exact roped_eq X hf r j _ _ _ (by first | omega | (simp only [Fin.val_zero, Fin.val_one]; omega) | simp only [Fin.val_zero, Fin.val_one]) (by first | omega | (simp only [Fin.val_zero, Fin.val_one]; omega) | simp only [Fin.val_zero, Fin.val_one])

/-- Heads 6 and 7. -/
theorem pair3_apply {f : Fin 64 → EReal} (hf : X.Twice f) (r : Fin 256) (b : Fin 2) (j : Fin 128) :
    k0_pay22 (val_v154 X) (val_v161 X) (val_v203 X) (ix3 r b j) = X.roped f r (128 * (6 + b.val)) j.val := by
  have hj := j.isLt
  pointwise [k0_pay22]
  simp only [v203_apply]
  revert b
  refine fin2_cases ?_ ?_ <;> exact roped_eq X hf r j _ _ _ (by first | omega | (simp only [Fin.val_zero, Fin.val_one]; omega) | simp only [Fin.val_zero, Fin.val_one]) (by first | omega | (simp only [Fin.val_zero, Fin.val_one]; omega) | simp only [Fin.val_zero, Fin.val_one])

/-- Heads 8 and 9. -/
theorem pair4_apply {f : Fin 64 → EReal} (hf : X.Twice f) (r : Fin 256) (b : Fin 2) (j : Fin 128) :
    k0_pay26 (val_v154 X) (val_v161 X) (val_v242 X) (val_v243 X) (ix3 r b j) = X.roped f r (128 * (8 + b.val)) j.val := by
  have hj := j.isLt
  pointwise [k0_pay26, val_v242, val_v243, k0_pay24, k0_pay25]
  simp only [v237_fold, v237_apply]
  revert b
  refine fin2_cases ?_ ?_ <;> exact roped_eq X hf r j _ _ _ (by first | omega | (simp only [Fin.val_zero, Fin.val_one]; omega) | simp only [Fin.val_zero, Fin.val_one]) (by first | omega | (simp only [Fin.val_zero, Fin.val_one]; omega) | simp only [Fin.val_zero, Fin.val_one])

/-- Heads 10 and 11. -/
theorem pair5_apply {f : Fin 64 → EReal} (hf : X.Twice f) (r : Fin 256) (b : Fin 2) (j : Fin 128) :
    k0_pay27 (val_v154 X) (val_v161 X) (val_v237 X) (ix3 r b j) = X.roped f r (128 * (10 + b.val)) j.val := by
  have hj := j.isLt
  pointwise [k0_pay27]
  simp only [v237_apply]
  revert b
  refine fin2_cases ?_ ?_ <;> exact roped_eq X hf r j _ _ _ (by first | omega | (simp only [Fin.val_zero, Fin.val_one]; omega) | simp only [Fin.val_zero, Fin.val_one]) (by first | omega | (simp only [Fin.val_zero, Fin.val_one]; omega) | simp only [Fin.val_zero, Fin.val_one])

/-- Heads 12 and 13. -/
theorem pair6_apply {f : Fin 64 → EReal} (hf : X.Twice f) (r : Fin 256) (b : Fin 2) (j : Fin 128) :
    k0_pay31 (val_v276 X) (val_v281 X) (ix3 r b j) = X.roped f r (128 * (12 + b.val)) j.val := by
  have hj := j.isLt
  pointwise [k0_pay31, val_v276, val_v281, k0_pay29, k0_pay30]
  simp only [v271_fold, v271_apply]
  revert b
  refine fin2_cases ?_ ?_ <;> exact roped_eq X hf r j _ _ _ (by first | omega | (simp only [Fin.val_zero, Fin.val_one]; omega) | simp only [Fin.val_zero, Fin.val_one]) (by first | omega | (simp only [Fin.val_zero, Fin.val_one]; omega) | simp only [Fin.val_zero, Fin.val_one])

/-- Heads 14 and 15. -/
theorem pair7_apply {f : Fin 64 → EReal} (hf : X.Twice f) (r : Fin 256) (b : Fin 2) (j : Fin 128) :
    k0_pay32 (val_v154 X) (val_v161 X) (val_v271 X) (ix3 r b j) = X.roped f r (128 * (14 + b.val)) j.val := by
  have hj := j.isLt
  pointwise [k0_pay32]
  simp only [v271_apply]
  revert b
  refine fin2_cases ?_ ?_ <;> exact roped_eq X hf r j _ _ _ (by first | omega | (simp only [Fin.val_zero, Fin.val_one]; omega) | simp only [Fin.val_zero, Fin.val_one]) (by first | omega | (simp only [Fin.val_zero, Fin.val_one]; omega) | simp only [Fin.val_zero, Fin.val_one])

/-- The first two key heads. -/
theorem pairK0_apply {f : Fin 64 → EReal} (hf : X.Twice f) (r : Fin 256) (b : Fin 2) (j : Fin 128) :
    k0_pay39 (val_v310 X) (val_v315 X) (ix3 r b j) = X.roped f r (128 * (16 + b.val)) j.val := by
  have hj := j.isLt
  pointwise [k0_pay39, val_v310, val_v315, k0_pay34, k0_pay35]
  simp only [v305_fold, v305_apply]
  revert b
  refine fin2_cases ?_ ?_ <;> exact roped_eq X hf r j _ _ _ (by first | omega | (simp only [Fin.val_zero, Fin.val_one]; omega) | simp only [Fin.val_zero, Fin.val_one]) (by first | omega | (simp only [Fin.val_zero, Fin.val_one]; omega) | simp only [Fin.val_zero, Fin.val_one])

/-- The last two key heads. -/
theorem pairK1_apply {f : Fin 64 → EReal} (hf : X.Twice f) (r : Fin 256) (b : Fin 2) (j : Fin 128) :
    k0_pay40 (val_v154 X) (val_v161 X) (val_v305 X) (val_v317 X) (val_v319 X) (ix3 r b j) = X.roped f r (128 * (18 + b.val)) j.val := by
  have hj := j.isLt
  pointwise [k0_pay40, val_v317, val_v319, k0_pay36, k0_pay37, k0_pay38]
  simp only [v305_fold, v305_apply]
  revert b
  refine fin2_cases ?_ ?_ <;> exact roped_eq X hf r j _ _ _ (by first | omega | (simp only [Fin.val_zero, Fin.val_one]; omega) | simp only [Fin.val_zero, Fin.val_one]) (by first | omega | (simp only [Fin.val_zero, Fin.val_one]; omega) | simp only [Fin.val_zero, Fin.val_one])

/-- The first two value heads. -/
theorem pairV0_apply (r : Fin 256) (b : Fin 2) (j : Fin 128) :
    k0_pay42 (val_v128 X) (val_v142 X) (View.ld X.w (Rect.unit (s := S4096x3072) ![0, 2560] S4096x512.size inb_S4096x3072_S4096x512_0_2560)) (View.ld X.ws (Rect.unit (s := S1x3072) ![0, 2560] S1x512.size inb_S1x3072_S1x512_0_2560)) (ix3 r b j) = X.qkv r (128 * (20 + b.val) + j.val) := by
  have hj := j.isLt
  pointwise [k0_pay42]
  revert b
  refine fin2_cases ?_ ?_
  · rw [if_pos (by decide)]
    exact (valV_apply X r _).trans (congrArg (X.qkv r) (by first | omega | (simp only [Fin.val_zero]; omega) | simp only [Fin.val_zero]))
  · rw [if_neg (by decide)]
    exact (valV_apply X r _).trans (congrArg (X.qkv r) (by first | omega | (simp only [Fin.val_one]; omega) | simp only [Fin.val_one]))

/-- The last two value heads. -/
theorem pairV1_apply (r : Fin 256) (b : Fin 2) (j : Fin 128) :
    k0_pay43 (val_v128 X) (val_v142 X) (View.ld X.w (Rect.unit (s := S4096x3072) ![0, 2560] S4096x512.size inb_S4096x3072_S4096x512_0_2560)) (View.ld X.ws (Rect.unit (s := S1x3072) ![0, 2560] S1x512.size inb_S1x3072_S1x512_0_2560)) (ix3 r b j) = X.qkv r (128 * (22 + b.val) + j.val) := by
  have hj := j.isLt
  pointwise [k0_pay43]
  revert b
  refine fin2_cases ?_ ?_
  · rw [if_pos (by decide)]
    exact (valV_apply X r _).trans (congrArg (X.qkv r) (by first | omega | (simp only [Fin.val_zero]; omega) | simp only [Fin.val_zero]))
  · rw [if_neg (by decide)]
    exact (valV_apply X r _).trans (congrArg (X.qkv r) (by first | omega | (simp only [Fin.val_one]; omega) | simp only [Fin.val_one]))

end Cert.KernelIdeal.Run

end
-- ==== Proof.KernelBlocks.lean ====
/- The five output blocks of the kernel at the ideal values, entry by entry: the stores of the head pairs put together
   into the q, k and v blocks, and the codes and scale blocks. -/
module

public import proofs.«01_k».proof.Proof.KernelPairs

@[expose] public section

set_option maxRecDepth 16384

noncomputable section

namespace Cert.KernelIdeal.Run

open Cert.KernelIdeal Cert.KernelIdeal.Gen Cert.Proof
open Idealize.ShloMosaic

variable (X : Blocks Ideal)

/-! ## The stores put together -/

/-- What `p` pairs of heads hold, one pair per row, when head `h` of token `r` reads `T r h j` at entry `j`. -/
def pairRows (n p : ℕ) (hp : 0 < p) (hn : n = 256 * p) (T : Fin 256 → ℕ → ℕ → EReal) :
    (⟨3, ![n, 2, 128]⟩ : Shape).Idx → EReal := fun y =>
  T ⟨(y 0).val / p, Nat.div_lt_of_lt_mul (by have : (y 0).val < n := (y 0).isLt; omega)⟩
    (2 * ((y 0).val % p) + (y 1).val) (y 2).val

/-- A store of pair `k` of every token agrees with `pairRows` where it writes. -/
theorem pair_emb (n p k : ℕ) (hp : 0 < p) (hn : n = 256 * p) (hk : k < p) (T : Fin 256 → ℕ → ℕ → EReal) {inb}
    {sp : ∀ a, 0 < (![p, 1, 1] : Fin 3 → ℕ) a} (P : Vec Ideal S256x2x128 .bf16)
    (hP : ∀ (r : Fin 256) (b : Fin 2) (j : Fin 128), P (ix3 r b j) = T r (2 * k + b.val) j.val)
    (x : S256x2x128.Idx) :
    P x = pairRows n p hp hn T
      ((⟨⟨![k, 0, 0], ![256, 2, 128], ![p, 1, 1], inb⟩, sp⟩ : Rect (⟨3, ![n, 2, 128]⟩ : Shape)).emb x) := by
  obtain ⟨r, b, j, rfl⟩ : ∃ (r : Fin 256) (b : Fin 2) (j : Fin 128), x = ix3 r b j :=
    ⟨x 0, x 1, x 2, by funext a; fin_cases a <;> rfl⟩
  rw [hP]
  have h0 : (k + p * r.val) / p = r.val := by
    rw [Nat.add_mul_div_left _ _ hp, Nat.div_eq_of_lt hk, Nat.zero_add]
  have h1 : (k + p * r.val) % p = k := by rw [Nat.add_mul_mod_self_left, Nat.mod_eq_of_lt hk]
  change T r (2 * k + b.val) j.val = T ⟨(k + p * r.val) / p, _⟩ (2 * ((k + p * r.val) % p) + (0 + 1 * b.val)) (0 + 1 * j.val)
  simp only [h0, h1, Nat.zero_add, Nat.one_mul]

/-! ## The five blocks -/

/-- The q block as rows of head pairs. -/
theorem pairsQ_apply {f : Fin 64 → EReal} (hf : X.Twice f) (y : S2048x2x128.Idx) :
    pairsQ X y = pairRows 2048 8 (by decide) (by decide) (fun r h j => X.roped f r (128 * h) j) y := by
  refine View.canon_apply_of_pieces (Val := Elt Ideal) (pairRows 2048 8 (by decide) (by decide) (fun r h j => X.roped f r (128 * h) j)) _
    (fun p hp x => ?_) y (coverQ _ _ _ _ _ _ _ _ y)
  simp only [List.mem_cons, List.not_mem_nil, or_false] at hp
  rcases hp with rfl | rfl | rfl | rfl | rfl | rfl | rfl | rfl
  · exact pair_emb 2048 8 7 _ _ (by decide) _ _ (pair7_apply X hf) x
  · exact pair_emb 2048 8 6 _ _ (by decide) _ _ (pair6_apply X hf) x
  · exact pair_emb 2048 8 5 _ _ (by decide) _ _ (pair5_apply X hf) x
  · exact pair_emb 2048 8 4 _ _ (by decide) _ _ (pair4_apply X hf) x
  · exact pair_emb 2048 8 3 _ _ (by decide) _ _ (pair3_apply X hf) x
  · exact pair_emb 2048 8 2 _ _ (by decide) _ _ (pair2_apply X hf) x
  · exact pair_emb 2048 8 1 _ _ (by decide) _ _ (pair1_apply X hf) x
  · exact pair_emb 2048 8 0 _ _ (by decide) _ _ (pair0_apply X hf) x

/-- The k block as rows of head pairs. -/
theorem pairsK_apply {f : Fin 64 → EReal} (hf : X.Twice f) (y : S512x2x128.Idx) :
    pairsK X y = pairRows 512 2 (by decide) (by decide) (fun r h j => X.roped f r (128 * (16 + h)) j) y := by
  refine View.canon_apply_of_pieces (Val := Elt Ideal) (pairRows 512 2 (by decide) (by decide) (fun r h j => X.roped f r (128 * (16 + h)) j)) _
    (fun p hp x => ?_) y (coverK _ _ y)
  simp only [List.mem_cons, List.not_mem_nil, or_false] at hp
  rcases hp with rfl | rfl
  · exact pair_emb 512 2 1 _ _ (by decide) _ _ (fun r b j => (pairK1_apply X hf r b j).trans (by congr 1; omega)) x
  · exact pair_emb 512 2 0 _ _ (by decide) _ _ (fun r b j => (pairK0_apply X hf r b j).trans (by congr 1; omega)) x

/-- The v block as rows of head pairs. -/
theorem pairsV_apply (y : S512x2x128.Idx) :
    pairsV X y = pairRows 512 2 (by decide) (by decide) (fun r h j => X.qkv r (128 * (20 + h) + j)) y := by
  refine View.canon_apply_of_pieces (Val := Elt Ideal) (pairRows 512 2 (by decide) (by decide) (fun r h j => X.qkv r (128 * (20 + h) + j))) _
    (fun p hp x => ?_) y (coverV _ _ y)
  simp only [List.mem_cons, List.not_mem_nil, or_false] at hp
  rcases hp with rfl | rfl
  · exact pair_emb 512 2 1 _ _ (by decide) _ _ (fun r b j => (pairV1_apply X r b j).trans (by congr 1; omega)) x
  · exact pair_emb 512 2 0 _ _ (by decide) _ _ (fun r b j => (pairV0_apply X r b j).trans (by congr 1; omega)) x

/-- Row `R` of a block of heads is entry `R % 2` of row `R / 2` of its head pairs. -/
theorem pair_of_row {n N : ℕ} (hN : N = 2 * n) (h : (⟨3, ![n, 2, 128]⟩ : Shape).numel = (⟨2, ![N, 128]⟩ : Shape).numel)
    (R : Fin N) (j : Fin 128) :
    (Shape.reshapeEquiv h).symm (ix2 R j)
      = ix3 (⟨R.val / 2, by omega⟩ : Fin n) (⟨R.val % 2, by omega⟩ : Fin 2) j := by
  rw [Equiv.symm_apply_eq]
  symm
  refine Shape.reshapeEquiv_eq_of_vals h _ _ _ _ (rowMajor_val2 _ 128 rfl) (rowMajor_val3 _ 256 128 rfl rfl) ?_
  change R.val * 128 + j.val = R.val / 2 * 256 + R.val % 2 * 128 + j.val
  omega

/-- Row `R` of what `p` pairs of heads hold is head `R % (2p)` of token `R / (2p)`. -/
theorem pairRows_row (n N p q : ℕ) (hp : 0 < p) (hn : n = 256 * p) (hN : N = 2 * n) (hq : q = 2 * p)
    (T : Fin 256 → ℕ → ℕ → EReal) (R : Fin N) (j : Fin 128) (hR : R.val / q < 256) :
    pairRows n p hp hn T (ix3 (⟨R.val / 2, by omega⟩ : Fin n) (⟨R.val % 2, by omega⟩ : Fin 2) j)
      = T ⟨R.val / q, hR⟩ (R.val % q) j.val := by
  change T ⟨R.val / 2 / p, _⟩ (2 * (R.val / 2 % p) + R.val % 2) j.val = _
  have h0 : R.val / 2 / p = R.val / q := by rw [Nat.div_div_eq_div_mul, hq]
  have h1 : 2 * (R.val / 2 % p) + R.val % 2 = R.val % q := by rw [hq, Nat.mod_mul]; omega
  simp only [h0, h1]

/-- The q block: row `R` is head `R % 16` of token `R / 16`. -/
theorem outQ_apply {f : Fin 64 → EReal} (hf : X.Twice f) (R : Fin 4096) (j : Fin 128) :
    outQ X (ix2 R j) = X.roped f ⟨R.val / 16, by omega⟩ (128 * (R.val % 16)) j.val := by
  unfold outQ
  rw [pair_of_row (by decide), pairsQ_apply X hf]
  exact pairRows_row 2048 4096 8 16 _ _ (by decide) (by decide) _ R j _

/-- The k block: row `R` is key head `R % 4` of token `R / 4`. -/
theorem outK_apply {f : Fin 64 → EReal} (hf : X.Twice f) (R : Fin 1024) (j : Fin 128) :
    outK X (ix2 R j) = X.roped f ⟨R.val / 4, by omega⟩ (128 * (16 + R.val % 4)) j.val := by
  unfold outK
  rw [pair_of_row (by decide), pairsK_apply X hf]
  exact pairRows_row 512 1024 2 4 _ _ (by decide) (by decide) _ R j _

/-- The v block: row `R` is value head `R % 4` of token `R / 4`. -/
theorem outV_apply (R : Fin 1024) (j : Fin 128) :
    outV X (ix2 R j) = X.qkv ⟨R.val / 4, by omega⟩ (128 * (20 + R.val % 4) + j.val) := by
  unfold outV
  rw [pair_of_row (by decide), pairsV_apply X]
  exact pairRows_row 512 1024 2 4 _ _ (by decide) (by decide) _ R j _

/-- The codes block. -/
theorem outCodes_apply (r : Fin 256) (k : Fin 4096) : outCodes X (ix2 r k) = codeRow (X.row r) X.gainRow k := by
  unfold outCodes
  rw [View.canon_unit_zero hz2]
  exact v142_apply X r k

/-- The scales block. -/
theorem outScale_apply (r : Fin 256) : outScale X (ix2 r 0) = scaleOf (X.amax r) := by
  unfold outScale
  rw [View.canon_unit_zero hz2]
  exact v128_apply X r

end Cert.KernelIdeal.Run

end
-- ==== Proof.Whole.lean ====
/- The five results over the whole arrays, as functions of the inputs: every token row and head by the row functions of
   `Spec.lean`. Both programs' result arrays are shown to be these. -/
module

public import proofs.«01_k».proof.Proof.Spec
public import Idealize.ShloMosaic.Lib.Pointwise

@[expose] public section

noncomputable section

namespace Cert.Proof

open Idealize.ShloMosaic

/-- The inputs, as plain functions: the token rows, the gain, the positions, the 64 frequencies, the weights and their
    scales. -/
@[ext] structure Inputs where
  row : Fin 1536 → Fin 4096 → EReal
  gain : Fin 4096 → EReal
  pos : Fin 1536 → BitVec 32
  frq : Fin 64 → EReal
  w : Fin 4096 → Fin 3072 → EReal
  ws : Fin 3072 → EReal

/-- Token `n`, for any number `n`. -/
def tok (n : ℕ) : Fin 1536 := ⟨n % 1536, Nat.mod_lt _ (by decide)⟩

/-- Below 1536 a token is its number. -/
theorem tok_of_lt (r : Fin 1536) : tok r.val = r := Fin.ext (Nat.mod_eq_of_lt r.isLt)

variable (I : Inputs)

/-- The projection of token `n` onto a column. -/
def Inputs.qkv (n c : ℕ) : EReal := qkvRow (I.row (tok n)) I.gain I.w I.ws c

/-- Entry `j` of the rotated head of token `n` that starts at column `c`. -/
def Inputs.roped (n c j : ℕ) : EReal := rope (fun i => I.qkv n (c + i)) (angle (I.pos (tok n)) I.frq) j

/-- The q array: row `R` is head `R % 16` of token `R / 16`. -/
def Inputs.q : (⟨2, ![24576, 128]⟩ : Shape).Idx → EReal := fun i =>
  I.roped ((i 0).val / 16) (128 * ((i 0).val % 16)) (i 1).val

/-- The k array: row `R` is key head `R % 4` of token `R / 4`. -/
def Inputs.k : (⟨2, ![6144, 128]⟩ : Shape).Idx → EReal := fun i =>
  I.roped ((i 0).val / 4) (128 * (16 + (i 0).val % 4)) (i 1).val

/-- The v array: row `R` is value head `R % 4` of token `R / 4`. -/
def Inputs.v : (⟨2, ![6144, 128]⟩ : Shape).Idx → EReal := fun i =>
  I.qkv ((i 0).val / 4) (128 * (20 + (i 0).val % 4) + (i 1).val)

/-- The codes. -/
def Inputs.codes : (⟨2, ![1536, 4096]⟩ : Shape).Idx → EReal := fun i =>
  codeRow (I.row (tok (i 0).val)) I.gain (i 1)

/-- The scales. -/
def Inputs.scale : (⟨2, ![1536, 1]⟩ : Shape).Idx → EReal := fun i =>
  scaleOf (amaxRow (I.row (tok (i 0).val)) I.gain)

end Cert.Proof

end
-- ==== Proof.KernelValue.lean ====
/- The kernel's five result arrays at the ideal values: the blocks of the grid points put together, as functions of what
   the arrays hold when the grid starts. -/
module

public import proofs.«01_k».proof.Proof.KernelBlocks
public import proofs.«01_k».proof.Proof.Whole
public import Idealize.ShloMosaic.Lib.Pipeline.ValueKit
public import Idealize.ShloMosaic.Lib.Claim

@[expose] public section

set_option maxRecDepth 16384

noncomputable section

namespace Cert.KernelIdeal.Run

open Cert.KernelIdeal Cert.KernelIdeal.Gen Cert.Proof
open Idealize.ShloMosaic Idealize.ShloMosaic.TcCoe
open Idealize.SL Idealize.SL.Sem

variable (m : (ℓ : Loc nD τ sig) → Buf (Elt Ideal) ℓ) (ρ : Dev nD → PrngReg) (c : Dev nD)

/-- The inputs as the grid finds them. -/
def inputs : Inputs where
  row r k := V m c main_v13 (ix2 r k)
  gain k := V m c main_v14 (ix2 0 k)
  pos r := V m c main_v15 (ix2 r 0)
  frq j := V m c main_v12 (ix2 0 ⟨j.val, by omega⟩)
  w k n := V m c main_arg3 (ix2 k n)
  ws n := V m c main_v16 (ix2 0 n)

/-! ## The index maps -/

/-- Which block of its array window 0 is on at point `t`. -/
theorem index0 : ∀ t : Fin cfg0.N, win0_0.index t = ![t.val, 0] := (by decide +kernel : ∀ t : Fin grid0.N, win0_0.index t = ![t.val, 0])
/-- Which block of its array window 1 is on at point `t`. -/
theorem index1 : ∀ t : Fin cfg0.N, win0_1.index t = ![0, 0] := (by decide +kernel : ∀ t : Fin grid0.N, win0_1.index t = ![0, 0])
/-- Which block of its array window 2 is on at point `t`. -/
theorem index2 : ∀ t : Fin cfg0.N, win0_2.index t = ![t.val, 0] := (by decide +kernel : ∀ t : Fin grid0.N, win0_2.index t = ![t.val, 0])
/-- Which block of its array window 3 is on at point `t`. -/
theorem index3 : ∀ t : Fin cfg0.N, win0_3.index t = ![0, 0] := (by decide +kernel : ∀ t : Fin grid0.N, win0_3.index t = ![0, 0])
/-- Which block of its array window 4 is on at point `t`. -/
theorem index4 : ∀ t : Fin cfg0.N, win0_4.index t = ![0, 0] := (by decide +kernel : ∀ t : Fin grid0.N, win0_4.index t = ![0, 0])
/-- Which block of its array window 5 is on at point `t`. -/
theorem index5 : ∀ t : Fin cfg0.N, win0_5.index t = ![0, 0] := (by decide +kernel : ∀ t : Fin grid0.N, win0_5.index t = ![0, 0])
/-- Which block of its array window 6 is on at point `t`. -/
theorem index6 : ∀ t : Fin cfg0.N, win0_6.index t = ![t.val, 0] := (by decide +kernel : ∀ t : Fin grid0.N, win0_6.index t = ![t.val, 0])
/-- Which block of its array window 7 is on at point `t`. -/
theorem index7 : ∀ t : Fin cfg0.N, win0_7.index t = ![t.val, 0] := (by decide +kernel : ∀ t : Fin grid0.N, win0_7.index t = ![t.val, 0])
/-- Which block of its array window 8 is on at point `t`. -/
theorem index8 : ∀ t : Fin cfg0.N, win0_8.index t = ![t.val, 0] := (by decide +kernel : ∀ t : Fin grid0.N, win0_8.index t = ![t.val, 0])
/-- Which block of its array window 9 is on at point `t`. -/
theorem index9 : ∀ t : Fin cfg0.N, win0_9.index t = ![t.val, 0] := (by decide +kernel : ∀ t : Fin grid0.N, win0_9.index t = ![t.val, 0])
/-- Which block of its array window 10 is on at point `t`. -/
theorem index10 : ∀ t : Fin cfg0.N, win0_10.index t = ![t.val, 0] := (by decide +kernel : ∀ t : Fin grid0.N, win0_10.index t = ![t.val, 0])

/-- There are six grid points. -/
theorem point_lt (t : Fin cfg0.N) : t.val < 6 := lt_of_lt_of_eq t.isLt N_0

/-! ## The input blocks -/

/-- Row `r` of point `t`'s block is token `256 t + r`. -/
theorem block_row (t : Fin cfg0.N) (r : Fin 256) : (blocksAt m c t).row r = (inputs m c).row (tok (256 * t.val + r.val)) := by
  funext k
  have ht := point_lt t
  have hr := r.isLt
  change iblk m c 0 t (ix2 r k) = V m c main_v13 (ix2 (tok (256 * t.val + r.val)) k)
  blk_simp [iblk]
  refine congrArg (V m c main_v13) ?_
  unfold tok
  blk_ext [index0]

/-- The gain's block is the gain. -/
theorem block_gain (t : Fin cfg0.N) : (blocksAt m c t).gainRow = (inputs m c).gain := by
  funext k
  change iblk m c 1 t (ix2 0 k) = V m c main_v14 (ix2 0 k)
  blk_simp [iblk]
  refine congrArg (V m c main_v14) ?_
  blk_ext [index1]

/-- Row `r` of point `t`'s positions is token `256 t + r`'s. -/
theorem block_pos (t : Fin cfg0.N) (r : Fin 256) : (blocksAt m c t).pos (ix2 r 0) = (inputs m c).pos (tok (256 * t.val + r.val)) := by
  have ht := point_lt t
  have hr := r.isLt
  change iblk m c 2 t (ix2 r 0) = V m c main_v15 (ix2 (tok (256 * t.val + r.val)) 0)
  blk_simp [iblk]
  refine congrArg (V m c main_v15) ?_
  unfold tok
  blk_ext [index2]

/-- The frequencies' block is the array of frequencies. -/
theorem block_freq (t : Fin cfg0.N) (j : Fin 128) : (blocksAt m c t).freq (ix2 0 j) = V m c main_v12 (ix2 0 j) := by
  change iblk m c 3 t (ix2 0 j) = _
  blk_simp [iblk]
  refine congrArg (V m c main_v12) ?_
  blk_ext [index3]

/-- The weights' block is the weights. -/
theorem block_w (t : Fin cfg0.N) : (blocksAt m c t).wts = (inputs m c).w := by
  funext k n
  change iblk m c 4 t (ix2 k n) = V m c main_arg3 (ix2 k n)
  blk_simp [iblk]
  refine congrArg (V m c main_arg3) ?_
  blk_ext [index4]

/-- The weight scales' block is the weight scales. -/
theorem block_ws (t : Fin cfg0.N) : (blocksAt m c t).wss = (inputs m c).ws := by
  funext n
  change iblk m c 5 t (ix2 0 n) = V m c main_v16 (ix2 0 n)
  blk_simp [iblk]
  refine congrArg (V m c main_v16) ?_
  blk_ext [index5]

/-! ## The frequencies on the host -/

/-- The 128 frequencies the grid finds are the host's 64 frequencies, put after themselves. -/
theorem freq_entry : V m c main_v12 = shapeCast S1x128 (concatenate S128 0 [⟨S64, V m c main_v10⟩, ⟨S64, V m c main_v10⟩] concatenates_S64_S64_S128_d0) shapeCasts_S128_S1x128 := by
  entry_read
  rfl

/-- The first 64 of them. -/
theorem freq_low (i : Fin 64) : V m c main_v12 (ix2 0 ⟨i.val, by omega⟩) = V m c main_v10 (ix1 i) := by
  rw [freq_entry]
  have hi := i.isLt
  generalize V m c main_v10 = f
  pointwise

/-- The last 64 of them. -/
theorem freq_high (i : Fin 64) : V m c main_v12 (ix2 0 ⟨64 + i.val, by omega⟩) = V m c main_v10 (ix1 i) := by
  rw [freq_entry]
  have hi := i.isLt
  generalize V m c main_v10 = f
  pointwise

/-- The 128 frequencies the grid finds are 64 frequencies twice. -/
theorem freq_twice (j : Fin 128) : V m c main_v12 (ix2 0 j) = freqs (inputs m c).frq j.val := by
  have hj := j.isLt
  unfold freqs inputs
  by_cases hc : j.val < 64
  · exact congrArg (V m c main_v12) (congrArg (ix2 0) (Fin.ext (Nat.mod_eq_of_lt hc).symm))
  · refine Eq.trans ?_ ((freq_high m c ⟨j.val % 64, by omega⟩).trans (freq_low m c ⟨j.val % 64, by omega⟩).symm)
    exact congrArg (V m c main_v12) (congrArg (ix2 0) (Fin.ext (by change j.val = 64 + j.val % 64; omega)))

/-- Point `t`'s frequencies are the 64 frequencies twice. -/
theorem block_twice (t : Fin cfg0.N) : (blocksAt m c t).Twice (inputs m c).frq := fun j =>
  (block_freq m c t j).trans (freq_twice m c j)

/-- Point `t`'s projection is that of its tokens. -/
theorem block_qkv (t : Fin cfg0.N) (r : Fin 256) (n : ℕ) :
    (blocksAt m c t).qkv r n = (inputs m c).qkv (256 * t.val + r.val) n := by
  rw [Blocks.qkv, Inputs.qkv, block_row, block_gain, block_w, block_ws]

/-- Point `t`'s heads are those of its tokens. -/
theorem block_roped (t : Fin cfg0.N) (r : Fin 256) (n j : ℕ) :
    (blocksAt m c t).roped (inputs m c).frq r n j = (inputs m c).roped (256 * t.val + r.val) n j := by
  rw [Blocks.roped, Inputs.roped, block_pos]
  simp only [block_qkv]

/-! ## What the host leaves of the arguments -/

/-- The token rows are the argument, reshaped. -/
theorem entry_row : V m c main_v13 = shapeCast S1536x4096 (m ((c : Thread nD τ).loc main_arg0)) shapeCasts_S4x384x4096_S1536x4096 := by
  entry_read
  rfl

/-- The gain are the argument, reshaped. -/
theorem entry_gain : V m c main_v14 = shapeCast S1x4096 (m ((c : Thread nD τ).loc main_arg1)) shapeCasts_S4096_S1x4096 := by
  entry_read
  rfl

/-- The positions are the argument, reshaped. -/
theorem entry_pos : V m c main_v15 = shapeCast S1536x1 (m ((c : Thread nD τ).loc main_arg2)) shapeCasts_S4x384_S1536x1 := by
  entry_read
  rfl

/-- The weight scales are the argument, reshaped. -/
theorem entry_ws : V m c main_v16 = shapeCast S1x3072 (m ((c : Thread nD τ).loc main_arg4)) shapeCasts_S3072_S1x3072 := by
  entry_read
  rfl

/-! ## The result arrays -/

/-- The q array. -/
theorem final_q : (dats m 0 c).arrAt 6 cfg0.N = (inputs m c).q := by
  refine (dats m 0 c).arrAt_eq_of_covers 6 _ (by decide +kernel) fun t hf y => ?_
  blk_simp
  rw [after0_6]
  obtain ⟨R, j, rfl⟩ : ∃ (R : Fin 4096) (j : Fin 128), y = ix2 R j := ⟨y 0, y 1, by funext a; fin_cases a <;> rfl⟩
  refine (outQ_apply _ (block_twice m c t) R j).trans ?_
  rw [block_roped]
  unfold Inputs.q
  blk_simp [index6]
  have h0 : (t.val * 4096 + R.val) / 16 = 256 * t.val + R.val / 16 := by omega
  have h1 : (t.val * 4096 + R.val) % 16 = R.val % 16 := by omega
  rw [h0, h1]

/-- The k array. -/
theorem final_k : (dats m 0 c).arrAt 7 cfg0.N = (inputs m c).k := by
  refine (dats m 0 c).arrAt_eq_of_covers 7 _ (by decide +kernel) fun t hf y => ?_
  blk_simp
  rw [after0_7]
  obtain ⟨R, j, rfl⟩ : ∃ (R : Fin 1024) (j : Fin 128), y = ix2 R j := ⟨y 0, y 1, by funext a; fin_cases a <;> rfl⟩
  refine (outK_apply _ (block_twice m c t) R j).trans ?_
  rw [block_roped]
  unfold Inputs.k
  blk_simp [index7]
  have h0 : (t.val * 1024 + R.val) / 4 = 256 * t.val + R.val / 4 := by omega
  have h1 : (t.val * 1024 + R.val) % 4 = R.val % 4 := by omega
  rw [h0, h1]

/-- The v array. -/
theorem final_v : (dats m 0 c).arrAt 8 cfg0.N = (inputs m c).v := by
  refine (dats m 0 c).arrAt_eq_of_covers 8 _ (by decide +kernel) fun t hf y => ?_
  blk_simp
  rw [after0_8]
  obtain ⟨R, j, rfl⟩ : ∃ (R : Fin 1024) (j : Fin 128), y = ix2 R j := ⟨y 0, y 1, by funext a; fin_cases a <;> rfl⟩
  refine (outV_apply _ R j).trans ?_
  rw [block_qkv]
  unfold Inputs.v
  blk_simp [index8]
  have h0 : (t.val * 1024 + R.val) / 4 = 256 * t.val + R.val / 4 := by omega
  have h1 : (t.val * 1024 + R.val) % 4 = R.val % 4 := by omega
  rw [h0, h1]

/-- The codes. -/
theorem final_codes : (dats m 0 c).arrAt 9 cfg0.N = (inputs m c).codes := by
  refine (dats m 0 c).arrAt_eq_of_covers 9 _ (by decide +kernel) fun t hf y => ?_
  blk_simp
  rw [after0_9]
  obtain ⟨R, j, rfl⟩ : ∃ (R : Fin 256) (j : Fin 4096), y = ix2 R j := ⟨y 0, y 1, by funext a; fin_cases a <;> rfl⟩
  refine (outCodes_apply _ R j).trans ?_
  rw [block_row, block_gain]
  refine congr (congrArg (fun n => codeRow ((inputs m c).row (tok n)) (inputs m c).gain) ?_) (Fin.ext ?_)
  · blk_simp [index9]
    omega
  · blk_simp [index9]

/-- The scales. -/
theorem final_scale : (dats m 0 c).arrAt 10 cfg0.N = (inputs m c).scale := by
  refine (dats m 0 c).arrAt_eq_of_covers 10 _ (by decide +kernel) fun t hf y => ?_
  blk_simp
  rw [after0_10]
  obtain ⟨R, j, rfl⟩ : ∃ (R : Fin 256) (j : Fin 1), y = ix2 R j := ⟨y 0, y 1, by funext a; fin_cases a <;> rfl⟩
  obtain rfl : j = 0 := Subsingleton.elim _ _
  refine (outScale_apply _ R).trans ?_
  rw [Blocks.amax, block_row, block_gain]
  refine congrArg (fun n => scaleOf (amaxRow ((inputs m c).row (tok n)) (inputs m c).gain)) ?_
  blk_simp [index10]
  omega

/-- The run: the five result arrays at their functions of the inputs, the arguments unchanged. -/
theorem run_value : θ_run defs (onTc (τ := τ) (main (F := Ideal))) ⟨m, fun _ => 0, ρ⟩ (fun r => ∀ c : Dev nD,
      r.2.mem ((c.tc : Thread nD τ).loc main_v17_0) = (inputs m c).q
      ∧ r.2.mem ((c.tc : Thread nD τ).loc main_v17_1) = (inputs m c).k
      ∧ r.2.mem ((c.tc : Thread nD τ).loc main_v17_2) = (inputs m c).v
      ∧ r.2.mem ((c.tc : Thread nD τ).loc main_v17_3) = (inputs m c).codes
      ∧ r.2.mem ((c.tc : Thread nD τ).loc main_v17_4) = (inputs m c).scale
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 6).trans (final_q m c), ((h.1 c).1 7).trans (final_k m c),
      ((h.1 c).1 8).trans (final_v m c), ((h.1 c).1 9).trans (final_codes m c), ((h.1 c).1 10).trans (final_scale m c), h.2 c⟩)
    (θ_run_and (run_main m ρ) (frame_of m ρ (dats m) (A_eq m) (run_main m ρ)))

end Cert.KernelIdeal.Run

end
-- ==== Proof.ReferenceRows.lean ====
/- The reference's body at the ideal values, entry by entry: the same row functions and heads of `Spec.lean`, over the
   whole arrays. -/
module

public import proofs.«01_k».proof.Proof.Gen.ReferenceIdeal.Frame
public import proofs.«01_k».proof.Proof.Spec
public import Idealize.ShloMosaic.Lib.Pointwise

@[expose] public section

set_option maxRecDepth 16384

noncomputable section

namespace Cert.ReferenceIdeal.Value

open Cert.ReferenceIdeal Cert.ReferenceIdeal.Gen Cert.Proof
open Idealize.ShloMosaic

variable (x : Vec Ideal S1536x4096 .bf16) (g : Vec Ideal S1x4096 .f32) (p : Vec Ideal S1536x1 .i32)
  (f : Vec Ideal S1x64 .f32) (w : Vec Ideal S4096x3072 .fp8e4m3) (ws : Vec Ideal S1x3072 .f32)

/-- Token row `r`. -/
def row (r : Fin 1536) : Fin 4096 → EReal := fun k => x (ix2 r k)

/-- The gain. -/
def gainRow : Fin 4096 → EReal := fun k => g (ix2 0 k)

/-- The weights. -/
def wts : Fin 4096 → Fin 3072 → EReal := fun k c => w (ix2 k c)

/-- The weights' scales. -/
def wss : Fin 3072 → EReal := fun c => ws (ix2 0 c)

/-- The 64 frequencies. -/
def frq : Fin 64 → EReal := fun j => f (ix2 0 j)

/-- The projection of token row `r` onto column `n`. -/
def qkv (r : Fin 1536) (n : ℕ) : EReal := qkvRow (row x r) (gainRow g) (wts w) (wss ws) n

/-! ## The rows -/

/-- The normed rows. -/
theorem pay3_apply (r : Fin 1536) (k : Fin 4096) : k0_pay3 x g (ix2 r k) = hRow (row x r) (gainRow g) k := by
  pointwise [k0_pay3]
  rfl

/-- The row maxima. -/
def amaxVec : FVec Ideal S1536x1 .f32 :=
  shapeCast S1536x1 (multiReduction .maximumf [1] S1536 (absf (k0_pay3 x g)) 0xFF800000#32 reduces_S1536x4096_S1536 (.inl rfl) rfl) shapeCasts_S1536_S1536x1

/-- They are the largest absolute values of the normed rows. -/
theorem amaxVec_apply (r : Fin 1536) : amaxVec x g (ix2 r 0) = amaxRow (row x r) (gainRow g) := by
  unfold amaxVec amaxRow
  have h := fun k => pay3_apply x g r k
  generalize k0_pay3 x g = v at h
  pointwise
  simp only [h]

/-- The chosen exponents, from the row maxima. -/
def expoVec (v19 : FVec Ideal S1536x1 .f32) : FVec Ideal S1536x1 .f32 :=
  let v21 : FVec Ideal S1536x1 .f32 := mulf v19 (broadcast S1536x1 (Scalar.ofBits .f32 0x3B124925#32))
  select (cmpf .oeq v19 (broadcast S1536x1 (Scalar.ofBits .f32 0x00000000#32))) (broadcast S1536x1 (Scalar.ofBits .f32 0x00000000#32))
    (select (andi (cmpf .oge v21 (broadcast S1536x1 (Scalar.ofBits .f32 0x00800000#32))) (cmpf .olt v21 (broadcast S1536x1 (Scalar.ofBits .f32 0x7E800000#32))))
      (addf (floor (divf (log v21) (log (broadcast S1536x1 (Scalar.ofBits .f32 0x40000000#32))))) (broadcast S1536x1 (Scalar.ofBits .f32 0x3F800000#32)))
      (broadcast S1536x1 (Scalar.ofBits .f32 0x00000000#32)))

/-- The body's exponents are those of its row maxima. -/
theorem pay4_eq : k0_pay4 x g = expoVec (amaxVec x g) := rfl

/-- The chosen exponent of a row maximum. -/
theorem expoVec_apply (v19 : FVec Ideal S1536x1 .f32) (r : Fin 1536) :
    expoVec v19 (ix2 r 0) = (((expo (v19 (ix2 r 0)) : ℤ) : ℝ) : EReal) := by
  rw [← expoReal_eq]
  pointwise [expoVec]
  rfl

/-- The chosen exponents. -/
theorem pay4_apply (r : Fin 1536) :
    k0_pay4 x g (ix2 r 0) = (((expo (amaxRow (row x r) (gainRow g)) : ℤ) : ℝ) : EReal) := by
  rw [pay4_eq, expoVec_apply, amaxVec_apply]

/-- A vector of powers of two at an index. -/
theorem exp2_apply (v : FVec Ideal S1536x1 .f32) (r : Fin 1536) : exp2 v (ix2 r 0) = Ideal.exp2 (v (ix2 r 0)) := rfl

/-- A negated vector at an index. -/
theorem neg_apply (v : FVec Ideal S1536x1 .f32) (r : Fin 1536) :
    subf (broadcast S1536x1 (Scalar.ofBits .f32 0x00000000#32)) v (ix2 r 0) = 0 - v (ix2 r 0) := by
  pointwise

/-- The scales. -/
theorem pay5_apply (r : Fin 1536) : k0_pay5 x g (ix2 r 0) = scaleOf (amaxRow (row x r) (gainRow g)) := by
  change exp2 (k0_pay4 x g) (ix2 r 0) = _
  rw [exp2_apply, pay4_apply, exp2_expo]

/-- The inverse scales. -/
theorem pay6_apply (r : Fin 1536) :
    Ideal.exp2 (k0_pay6 x g (ix2 r 0)) = invScaleOf (amaxRow (row x r) (gainRow g)) := by
  change Ideal.exp2 (subf (broadcast S1536x1 (Scalar.ofBits .f32 0x00000000#32)) (k0_pay4 x g) (ix2 r 0)) = _
  rw [neg_apply, pay4_apply, exp2_neg_expo]

/-- A row's codes, from its normed entries and exponents. -/
theorem codes_apply (h : FVec Ideal S1536x4096 .f32) (e : FVec Ideal S1536x1 .f32) (r : Fin 1536) (k : Fin 4096) :
    k0_pay7 h e (ix2 r k) = min (Ideal.ofBits .f32 1138753536#32) (max (Ideal.ofBits .f32 3286237184#32)
      (h (ix2 r k) * Ideal.exp2 (e (ix2 r 0)))) := by
  pointwise [k0_pay7]
  rfl

/-- The codes. -/
theorem pay7_apply (r : Fin 1536) (k : Fin 4096) :
    k0_pay7 (k0_pay3 x g) (k0_pay6 x g) (ix2 r k) = codeRow (row x r) (gainRow g) k := by
  rw [codes_apply, pay3_apply, pay6_apply, codeRow]

/-- A column of the projection, from the normed entries, the scales and the exponents. -/
theorem proj_apply (h : FVec Ideal S1536x4096 .f32) (s e : FVec Ideal S1536x1 .f32) (r : Fin 1536) (c : Fin 3072) :
    k0_pay8 h s e w ws (ix2 r c) = (∑ i, k0_pay7 h e (ix2 r i) * w (ix2 i c)) * s (ix2 r 0) * ws (ix2 0 c) := by
  unfold k0_pay8
  generalize k0_pay7 h e = q
  pointwise

/-- The projection. -/
theorem pay8_apply (r : Fin 1536) (c : Fin 3072) :
    k0_pay8 (k0_pay3 x g) (k0_pay5 x g) (k0_pay6 x g) w ws (ix2 r c) = qkv x g w ws r c.val := by
  rw [proj_apply, pay5_apply, qkv, qkvRow, cols_of_lt _ _ c.isLt]
  simp only [pay7_apply, cols_of_lt _ _ c.isLt, wts, wss]

/-! ## The rotary embedding's factors -/

/-- The angles: the position times the 64 frequencies, twice over. -/
theorem pay11_apply (r : Fin 1536) (j : Fin 128) :
    k0_pay11 p f (ix3 r 0 j) = angle (p (ix2 r 0)) (frq f) j.val := by
  have hj := j.isLt
  unfold angle freqs frq
  pointwise [k0_pay11]
  split
  · next h => congr 3; exact Fin.ext (Nat.mod_eq_of_lt h).symm
  · next h => congr 3; exact Fin.ext (by change j.val - 64 = j.val % 64; omega)

/-- The cosines. -/
theorem pay12_apply (r : Fin 1536) (j : Fin 128) :
    k0_pay12 p f (ix3 r 0 j) = Ideal.cos (angle (p (ix2 r 0)) (frq f) j.val) :=
  congrArg Ideal.cos (pay11_apply p f r j)

/-- The sines. -/
theorem pay13_apply (r : Fin 1536) (j : Fin 128) :
    k0_pay13 p f (ix3 r 0 j) = Ideal.sin (angle (p (ix2 r 0)) (frq f) j.val) :=
  congrArg Ideal.sin (pay11_apply p f r j)

/-! ## The heads -/

/-- Entry `j` of the rotated head that starts at column `c`, for token row `r`. -/
def roped (r : Fin 1536) (c j : ℕ) : EReal :=
  rope (fun i => qkv x g w ws r (c + i)) (angle (p (ix2 r 0)) (frq f)) j

/-- The body's heads, before their rotation, from the whole projection: query heads. -/
def queryHeads (q : FVec Ideal S1536x3072 .f32) : FVec Ideal S1536x16x128 .f32 :=
  shapeCast S1536x16x128 (extractStridedSlice S1536x2048 ![0, 0] q slices_S1536x3072_o0_0_S1536x2048) shapeCasts_S1536x2048_S1536x16x128

/-- A query head's entry is a column of the projection. -/
theorem queryHeads_apply (q : FVec Ideal S1536x3072 .f32) (r : Fin 1536) (h : Fin 16) (j : Fin 128) :
    queryHeads q (ix3 r h j) = q (ix2 r ⟨128 * h.val + j.val, by omega⟩) := by
  have hj := j.isLt
  have hh := h.isLt
  pointwise [queryHeads]
  congr 2
  exact Fin.ext (by simp only []; omega)

/-- A key head's entry is a column of the projection. -/
theorem keyHeads_apply (h : FVec Ideal S1536x4096 .f32) (s e : FVec Ideal S1536x1 .f32) (r : Fin 1536) (b : Fin 4) (j : Fin 128) :
    k0_pay9 h s e w ws (ix3 r b j) = k0_pay8 h s e w ws (ix2 r ⟨128 * (16 + b.val) + j.val, by omega⟩) := by
  have hj := j.isLt
  have hh := b.isLt
  unfold k0_pay9
  generalize k0_pay8 h s e w ws = q
  pointwise
  congr 2
  exact Fin.ext (by simp only []; omega)

/-- A value head's entry is a column of the projection. -/
theorem valueHeads_apply (h : FVec Ideal S1536x4096 .f32) (s e : FVec Ideal S1536x1 .f32) (r : Fin 1536) (b : Fin 4) (j : Fin 128) :
    k0_pay10 h s e w ws (ix3 r b j) = k0_pay8 h s e w ws (ix2 r ⟨128 * (20 + b.val) + j.val, by omega⟩) := by
  have hj := j.isLt
  have hh := b.isLt
  unfold k0_pay10
  generalize k0_pay8 h s e w ws = q
  pointwise
  congr 2
  exact Fin.ext (by simp only []; omega)

/-- The body's rotation of 16 heads, on arrays of heads, cosines and sines. -/
def rotated16 (q : FVec Ideal S1536x16x128 .f32) (co si : FVec Ideal S1536x1x128 .f32) : FVec Ideal S24576x128 .bf16 :=
  let neg : FVec Ideal S1536x16x64 .f32 := subf (broadcast S1536x16x64 (Scalar.ofBits .f32 0x00000000#32)) (extractStridedSlice S1536x16x64 ![0, 0, 64] q slices_S1536x16x128_o0_0_64_S1536x16x64)
  let pos : FVec Ideal S1536x16x64 .f32 := extractStridedSlice S1536x16x64 ![0, 0, 0] q slices_S1536x16x128_o0_0_0_S1536x16x64
  let rot : FVec Ideal S1536x16x128 .f32 := concatenate S1536x16x128 2 [⟨S1536x16x64, neg⟩, ⟨S1536x16x64, pos⟩] concatenates_S1536x16x64_S1536x16x64_S1536x16x128_d2
  let sum : FVec Ideal S1536x16x128 .f32 := addf (mulf q (broadcastTo S1536x16x128 co broadcasts_S1536x1x128_S1536x16x128)) (mulf rot (broadcastTo S1536x16x128 si broadcasts_S1536x1x128_S1536x16x128))
  shapeCast S24576x128 (truncf .bf16 sum bitsLt_bf16_f32) shapeCasts_S1536x16x128_S24576x128

/-- The body's query rows are the rotation of its query heads. -/
theorem pay14_eq (h : FVec Ideal S1536x4096 .f32) (s e : FVec Ideal S1536x1 .f32) :
    k0_pay14 h s e w ws p f = rotated16 (queryHeads (k0_pay8 h s e w ws)) (k0_pay12 p f) (k0_pay13 p f) := rfl

/-- A rotated head of 16, entry by entry. -/
theorem rotated16_apply (q : FVec Ideal S1536x16x128 .f32) (co si : FVec Ideal S1536x1x128 .f32) (T A : ℕ → EReal)
    (R : Fin 24576) (j : Fin 128)
    (hq : ∀ i : Fin 128, q (ix3 (⟨R.val / 16, by omega⟩ : Fin 1536) (⟨R.val % 16, by omega⟩ : Fin 16) i) = T i.val)
    (hc : ∀ i : Fin 128, co (ix3 (⟨R.val / 16, by omega⟩ : Fin 1536) 0 i) = Ideal.cos (A i.val))
    (hs : ∀ i : Fin 128, si (ix3 (⟨R.val / 16, by omega⟩ : Fin 1536) 0 i) = Ideal.sin (A i.val)) :
    rotated16 q co si (ix2 R j) = rope T A j.val := by
  have hj := j.isLt
  unfold rope
  pointwise [rotated16]
  simp only [hq, hc, hs]
  split <;> rfl

/-- A rotated head of 4, entry by entry. -/
theorem rotated4_apply (q : FVec Ideal S1536x4x128 .f32) (co si : FVec Ideal S1536x1x128 .f32) (T A : ℕ → EReal)
    (R : Fin 6144) (j : Fin 128)
    (hq : ∀ i : Fin 128, q (ix3 (⟨R.val / 4, by omega⟩ : Fin 1536) (⟨R.val % 4, by omega⟩ : Fin 4) i) = T i.val)
    (hc : ∀ i : Fin 128, co (ix3 (⟨R.val / 4, by omega⟩ : Fin 1536) 0 i) = Ideal.cos (A i.val))
    (hs : ∀ i : Fin 128, si (ix3 (⟨R.val / 4, by omega⟩ : Fin 1536) 0 i) = Ideal.sin (A i.val)) :
    k0_pay1 q co si (ix2 R j) = rope T A j.val := by
  have hj := j.isLt
  unfold rope
  pointwise [k0_pay1]
  simp only [hq, hc, hs]
  split <;> rfl

/-- The q rows: row `R` is head `R % 16` of token `R / 16`. -/
theorem pay14_apply (R : Fin 24576) (j : Fin 128) :
    k0_pay14 (k0_pay3 x g) (k0_pay5 x g) (k0_pay6 x g) w ws p f (ix2 R j)
      = roped x g p f w ws ⟨R.val / 16, by omega⟩ (128 * (R.val % 16)) j.val := by
  rw [pay14_eq]
  exact rotated16_apply _ _ _ _ _ R j (fun i => (queryHeads_apply _ _ _ i).trans (pay8_apply x g w ws _ _))
    (fun i => pay12_apply p f _ i) (fun i => pay13_apply p f _ i)

/-- The k rows: row `R` is key head `R % 4` of token `R / 4`. -/
theorem pay1_apply (R : Fin 6144) (j : Fin 128) :
    k0_pay1 (k0_pay9 (k0_pay3 x g) (k0_pay5 x g) (k0_pay6 x g) w ws) (k0_pay12 p f) (k0_pay13 p f) (ix2 R j)
      = roped x g p f w ws ⟨R.val / 4, by omega⟩ (128 * (16 + R.val % 4)) j.val :=
  rotated4_apply _ _ _ _ _ R j (fun i => (keyHeads_apply w ws _ _ _ _ _ i).trans (pay8_apply x g w ws _ _))
    (fun i => pay12_apply p f _ i) (fun i => pay13_apply p f _ i)

/-- A flattened array of value heads at an index. -/
theorem flat4_apply (q : FVec Ideal S1536x4x128 .f32) (R : Fin 6144) (j : Fin 128) :
    k0_pay2 q (ix2 R j) = q (ix3 (⟨R.val / 4, by omega⟩ : Fin 1536) (⟨R.val % 4, by omega⟩ : Fin 4) j) := by
  pointwise [k0_pay2]

/-- The v rows: row `R` is value head `R % 4` of token `R / 4`. -/
theorem pay2_apply (R : Fin 6144) (j : Fin 128) :
    k0_pay2 (k0_pay10 (k0_pay3 x g) (k0_pay5 x g) (k0_pay6 x g) w ws) (ix2 R j)
      = qkv x g w ws ⟨R.val / 4, by omega⟩ (128 * (20 + R.val % 4) + j.val) := by
  rw [flat4_apply, valueHeads_apply, pay8_apply]

/-! ## The output blocks -/

/-- The zero offsets. -/
theorem hz2 : (![0, 0] : Fin 2 → ℕ) = fun _ => 0 := by funext a; fin_cases a <;> rfl

/-- The q block. -/
theorem out6_apply (R : Fin 24576) (j : Fin 128) : out0_6 x g p f w ws (ix2 R j)
    = roped x g p f w ws ⟨R.val / 16, by omega⟩ (128 * (R.val % 16)) j.val := by
  unfold out0_6 k0_pay15 k0_pay16 k0_pay17
  rw [View.canon_unit_zero hz2, View.ld_unit_zero hz2, View.ld_unit_zero hz2, View.ld_unit_zero hz2, View.ld_unit_zero hz2,
    View.ld_unit_zero hz2, View.ld_unit_zero hz2]
  exact pay14_apply x g p f w ws R j

/-- The k block. -/
theorem out7_apply (R : Fin 6144) (j : Fin 128) : out0_7 x g p f w ws (ix2 R j)
    = roped x g p f w ws ⟨R.val / 4, by omega⟩ (128 * (16 + R.val % 4)) j.val := by
  unfold out0_7 k0_pay15 k0_pay16 k0_pay17
  rw [View.canon_unit_zero hz2, View.ld_unit_zero hz2, View.ld_unit_zero hz2, View.ld_unit_zero hz2, View.ld_unit_zero hz2,
    View.ld_unit_zero hz2, View.ld_unit_zero hz2]
  exact pay1_apply x g p f w ws R j

/-- The v block. -/
theorem out8_apply (R : Fin 6144) (j : Fin 128) : out0_8 x g p f w ws (ix2 R j)
    = qkv x g w ws ⟨R.val / 4, by omega⟩ (128 * (20 + R.val % 4) + j.val) := by
  unfold out0_8 k0_pay15 k0_pay16 k0_pay17
  rw [View.canon_unit_zero hz2, View.ld_unit_zero hz2, View.ld_unit_zero hz2, View.ld_unit_zero hz2, View.ld_unit_zero hz2]
  exact pay2_apply x g w ws R j

/-- The codes block. -/
theorem out9_apply (r : Fin 1536) (k : Fin 4096) : out0_9 x g p f w ws (ix2 r k) = codeRow (row x r) (gainRow g) k := by
  unfold out0_9 k0_pay15 k0_pay17
  rw [View.canon_unit_zero hz2, View.ld_unit_zero hz2, View.ld_unit_zero hz2]
  exact pay7_apply x g r k

/-- The scales block. -/
theorem out10_apply (r : Fin 1536) : out0_10 x g p f w ws (ix2 r 0) = scaleOf (amaxRow (row x r) (gainRow g)) := by
  unfold out0_10 k0_pay16
  rw [View.canon_unit_zero hz2, View.ld_unit_zero hz2, View.ld_unit_zero hz2]
  exact pay5_apply x g r

end Cert.ReferenceIdeal.Value

end
-- ==== Proof.ReferenceValue.lean ====
/- The reference's five result arrays at the ideal values, as functions of what its arrays hold when the call starts. -/
module

public import proofs.«01_k».proof.Proof.ReferenceRows
public import proofs.«01_k».proof.Proof.Whole
public import Idealize.ShloMosaic.Lib.Pipeline.ValueKit
public import Idealize.ShloMosaic.Lib.Claim

@[expose] public section

set_option maxRecDepth 16384

noncomputable section

namespace Cert.ReferenceIdeal.Value

open Cert.ReferenceIdeal Cert.ReferenceIdeal.Gen Cert.Proof
open Idealize.ShloMosaic Idealize.ShloMosaic.TcCoe
open Idealize.SL Idealize.SL.Sem

variable (m : (ℓ : Loc nD τ sig) → Buf (Elt Ideal) ℓ) (ρ : Dev nD → PrngReg) (c : Dev nD)

/-- The inputs as the call finds them. -/
def inputs : Inputs where
  row r k := V m c main_v11 (ix2 r k)
  gain k := V m c main_v12 (ix2 0 k)
  pos r := V m c main_v13 (ix2 r 0)
  frq j := V m c main_v14 (ix2 0 j)
  w k n := V m c main_arg3 (ix2 k n)
  ws n := V m c main_v15 (ix2 0 n)

/-! ## The index maps -/

/-- Window 0's one block is its whole array. -/
theorem index0 : ∀ t : Fin cfg0.N, win0_0.index t = ![0, 0] := (by decide +kernel : ∀ t : Fin grid0.N, win0_0.index t = ![0, 0])
/-- Window 1's one block is its whole array. -/
theorem index1 : ∀ t : Fin cfg0.N, win0_1.index t = ![0, 0] := (by decide +kernel : ∀ t : Fin grid0.N, win0_1.index t = ![0, 0])
/-- Window 2's one block is its whole array. -/
theorem index2 : ∀ t : Fin cfg0.N, win0_2.index t = ![0, 0] := (by decide +kernel : ∀ t : Fin grid0.N, win0_2.index t = ![0, 0])
/-- Window 3's one block is its whole array. -/
theorem index3 : ∀ t : Fin cfg0.N, win0_3.index t = ![0, 0] := (by decide +kernel : ∀ t : Fin grid0.N, win0_3.index t = ![0, 0])
/-- Window 4's one block is its whole array. -/
theorem index4 : ∀ t : Fin cfg0.N, win0_4.index t = ![0, 0] := (by decide +kernel : ∀ t : Fin grid0.N, win0_4.index t = ![0, 0])
/-- Window 5's one block is its whole array. -/
theorem index5 : ∀ t : Fin cfg0.N, win0_5.index t = ![0, 0] := (by decide +kernel : ∀ t : Fin grid0.N, win0_5.index t = ![0, 0])
/-- Window 6's one block is its whole array. -/
theorem index6 : ∀ t : Fin cfg0.N, win0_6.index t = ![0, 0] := (by decide +kernel : ∀ t : Fin grid0.N, win0_6.index t = ![0, 0])
/-- Window 7's one block is its whole array. -/
theorem index7 : ∀ t : Fin cfg0.N, win0_7.index t = ![0, 0] := (by decide +kernel : ∀ t : Fin grid0.N, win0_7.index t = ![0, 0])
/-- Window 8's one block is its whole array. -/
theorem index8 : ∀ t : Fin cfg0.N, win0_8.index t = ![0, 0] := (by decide +kernel : ∀ t : Fin grid0.N, win0_8.index t = ![0, 0])
/-- Window 9's one block is its whole array. -/
theorem index9 : ∀ t : Fin cfg0.N, win0_9.index t = ![0, 0] := (by decide +kernel : ∀ t : Fin grid0.N, win0_9.index t = ![0, 0])
/-- Window 10's one block is its whole array. -/
theorem index10 : ∀ t : Fin cfg0.N, win0_10.index t = ![0, 0] := (by decide +kernel : ∀ t : Fin grid0.N, win0_10.index t = ![0, 0])

/-! ## The input blocks -/

/-- Input block 0 is its array. -/
theorem block0 (t : Fin cfg0.N) : iblk m c 0 t = V m c main_v11 := by
  funext y
  blk_simp [iblk]
  refine congrArg (V m c main_v11) ?_
  blk_ext [index0]

/-- Input block 1 is its array. -/
theorem block1 (t : Fin cfg0.N) : iblk m c 1 t = V m c main_v12 := by
  funext y
  blk_simp [iblk]
  refine congrArg (V m c main_v12) ?_
  blk_ext [index1]

/-- Input block 2 is its array. -/
theorem block2 (t : Fin cfg0.N) : iblk m c 2 t = V m c main_v13 := by
  funext y
  blk_simp [iblk]
  refine congrArg (V m c main_v13) ?_
  blk_ext [index2]

/-- Input block 3 is its array. -/
theorem block3 (t : Fin cfg0.N) : iblk m c 3 t = V m c main_v14 := by
  funext y
  blk_simp [iblk]
  refine congrArg (V m c main_v14) ?_
  blk_ext [index3]

/-- Input block 4 is its array. -/
theorem block4 (t : Fin cfg0.N) : iblk m c 4 t = V m c main_arg3 := by
  funext y
  blk_simp [iblk]
  refine congrArg (V m c main_arg3) ?_
  blk_ext [index4]

/-- Input block 5 is its array. -/
theorem block5 (t : Fin cfg0.N) : iblk m c 5 t = V m c main_v15 := by
  funext y
  blk_simp [iblk]
  refine congrArg (V m c main_v15) ?_
  blk_ext [index5]

/-- Token `n`'s projection. -/
theorem inputs_qkv (n : Fin 1536) (k : ℕ) :
    qkv (V m c main_v11) (V m c main_v12) (V m c main_arg3) (V m c main_v15) n k = (inputs m c).qkv n.val k := by
  rw [Inputs.qkv, tok_of_lt]
  rfl

/-- Token `n`'s rotated heads. -/
theorem inputs_roped (n : Fin 1536) (k j : ℕ) :
    roped (V m c main_v11) (V m c main_v12) (V m c main_v13) (V m c main_v14) (V m c main_arg3) (V m c main_v15) n k j
      = (inputs m c).roped n.val k j := by
  rw [Inputs.roped, roped, tok_of_lt]
  exact congrArg (fun T => rope T _ j) (funext fun i => inputs_qkv m c n (k + i))

/-! ## What the host leaves of the arguments -/

/-- The token rows are the argument, reshaped. -/
theorem entry_row : V m c main_v11 = shapeCast S1536x4096 (m ((c : Thread nD τ).loc main_arg0)) shapeCasts_S4x384x4096_S1536x4096 := by
  entry_read
  rfl

/-- The gain are the argument, reshaped. -/
theorem entry_gain : V m c main_v12 = shapeCast S1x4096 (m ((c : Thread nD τ).loc main_arg1)) shapeCasts_S4096_S1x4096 := by
  entry_read
  rfl

/-- The positions are the argument, reshaped. -/
theorem entry_pos : V m c main_v13 = shapeCast S1536x1 (m ((c : Thread nD τ).loc main_arg2)) shapeCasts_S4x384_S1536x1 := by
  entry_read
  rfl

/-- The weight scales are the argument, reshaped. -/
theorem entry_ws : V m c main_v15 = shapeCast S1x3072 (m ((c : Thread nD τ).loc main_arg4)) shapeCasts_S3072_S1x3072 := by
  entry_read
  rfl

/-! ## The result arrays -/

/-- The q array. -/
theorem final_q : (dats m 0 c).arrAt 6 cfg0.N = (inputs m c).q := by
  refine (dats m 0 c).arrAt_eq_of_covers 6 _ (by decide +kernel) fun t hf y => ?_
  blk_simp
  rw [after0_6, block0, block1, block2, block3, block4, block5]
  obtain ⟨R, j, rfl⟩ : ∃ (R : Fin 24576) (j : Fin 128), y = ix2 R j := ⟨y 0, y 1, by funext a; fin_cases a <;> rfl⟩
  refine (out6_apply _ _ _ _ _ _ R j).trans ?_
  rw [inputs_roped]
  unfold Inputs.q
  blk_simp [index6]

/-- The k array. -/
theorem final_k : (dats m 0 c).arrAt 7 cfg0.N = (inputs m c).k := by
  refine (dats m 0 c).arrAt_eq_of_covers 7 _ (by decide +kernel) fun t hf y => ?_
  blk_simp
  rw [after0_7, block0, block1, block2, block3, block4, block5]
  obtain ⟨R, j, rfl⟩ : ∃ (R : Fin 6144) (j : Fin 128), y = ix2 R j := ⟨y 0, y 1, by funext a; fin_cases a <;> rfl⟩
  refine (out7_apply _ _ _ _ _ _ R j).trans ?_
  rw [inputs_roped]
  unfold Inputs.k
  blk_simp [index7]

/-- The v array. -/
theorem final_v : (dats m 0 c).arrAt 8 cfg0.N = (inputs m c).v := by
  refine (dats m 0 c).arrAt_eq_of_covers 8 _ (by decide +kernel) fun t hf y => ?_
  blk_simp
  rw [after0_8, block0, block1, block2, block3, block4, block5]
  obtain ⟨R, j, rfl⟩ : ∃ (R : Fin 6144) (j : Fin 128), y = ix2 R j := ⟨y 0, y 1, by funext a; fin_cases a <;> rfl⟩
  refine (out8_apply _ _ _ _ _ _ R j).trans ?_
  rw [inputs_qkv]
  unfold Inputs.v
  blk_simp [index8]

/-- The codes. -/
theorem final_codes : (dats m 0 c).arrAt 9 cfg0.N = (inputs m c).codes := by
  refine (dats m 0 c).arrAt_eq_of_covers 9 _ (by decide +kernel) fun t hf y => ?_
  blk_simp
  rw [after0_9, block0, block1, block2, block3, block4, block5]
  obtain ⟨R, j, rfl⟩ : ∃ (R : Fin 1536) (j : Fin 4096), y = ix2 R j := ⟨y 0, y 1, by funext a; fin_cases a <;> rfl⟩
  refine (out9_apply _ _ _ _ _ _ R j).trans ?_
  rw [← tok_of_lt R]
  refine congr (congrArg (fun n => codeRow ((inputs m c).row (tok n)) (inputs m c).gain) ?_) (Fin.ext ?_)
  · blk_simp [index9]
    exact congrArg Fin.val (tok_of_lt R).symm
  · blk_simp [index9]

/-- The scales. -/
theorem final_scale : (dats m 0 c).arrAt 10 cfg0.N = (inputs m c).scale := by
  refine (dats m 0 c).arrAt_eq_of_covers 10 _ (by decide +kernel) fun t hf y => ?_
  blk_simp
  rw [after0_10, block0, block1, block2, block3, block4, block5]
  obtain ⟨R, j, rfl⟩ : ∃ (R : Fin 1536) (j : Fin 1), y = ix2 R j := ⟨y 0, y 1, by funext a; fin_cases a <;> rfl⟩
  obtain rfl : j = 0 := Subsingleton.elim _ _
  refine (out10_apply _ _ _ _ _ _ R).trans ?_
  rw [← tok_of_lt R]
  refine congrArg (fun n => scaleOf (amaxRow ((inputs m c).row (tok n)) (inputs m c).gain)) ?_
  blk_simp [index10]
  exact congrArg Fin.val (tok_of_lt R).symm

/-- The run: the five result arrays at their functions of the inputs, the arguments unchanged. -/
theorem run_value : θ_run defs (onTc (τ := τ) (main (F := Ideal))) ⟨m, fun _ => 0, ρ⟩ (fun r => ∀ c : Dev nD,
      r.2.mem ((c.tc : Thread nD τ).loc main_v16_0) = (inputs m c).q
      ∧ r.2.mem ((c.tc : Thread nD τ).loc main_v16_1) = (inputs m c).k
      ∧ r.2.mem ((c.tc : Thread nD τ).loc main_v16_2) = (inputs m c).v
      ∧ r.2.mem ((c.tc : Thread nD τ).loc main_v16_3) = (inputs m c).codes
      ∧ r.2.mem ((c.tc : Thread nD τ).loc main_v16_4) = (inputs m c).scale
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 6).trans (final_q m c), ((h.1 c).1 7).trans (final_k m c),
      ((h.1 c).1 8).trans (final_v m c), ((h.1 c).1 9).trans (final_codes m c), ((h.1 c).1 10).trans (final_scale m c), h.2 c⟩)
    (θ_run_and (run_main m ρ) (frame_of m ρ (dats m) (A_eq m) (run_main m ρ)))

end Cert.ReferenceIdeal.Value

end
-- ==== Proof.Algebraic.lean ====
/- The two programs on arguments that agree: they find the same inputs, so their five result arrays are the same. -/
module

public import proofs.«01_k».proof.Defs
public import proofs.«01_k».proof.Proof.KernelValue
public import proofs.«01_k».proof.Proof.ReferenceValue

@[expose] public section

set_option maxRecDepth 16384

noncomputable section

namespace Cert.Proof

open Idealize.ShloMosaic Idealize.ShloMosaic.TcCoe
open Idealize.SL.Sem

/-- The kernel's 64 frequencies are the row its host computes, before it is doubled. -/
theorem kernel_frq (m : (ℓ : Loc Cert.KernelIdeal.nD Cert.KernelIdeal.τ Cert.KernelIdeal.sig) → Buf (Elt Ideal) ℓ)
    (c : Dev Cert.KernelIdeal.nD) (j : Fin 64) :
    (Cert.KernelIdeal.Run.inputs m c).frq j = Cert.KernelIdeal.Gen.V m c Cert.KernelIdeal.main_v10 (ix1 j) :=
  Cert.KernelIdeal.Run.freq_low m c j

/-- The reference's frequencies are its 64-element row. -/
theorem reference_frq (m : (ℓ : Loc Cert.ReferenceIdeal.nD Cert.ReferenceIdeal.τ Cert.ReferenceIdeal.sig) → Buf (Elt Ideal) ℓ)
    (c : Dev Cert.ReferenceIdeal.nD) (j : Fin 64) :
    (Cert.ReferenceIdeal.Value.inputs m c).frq j = Cert.ReferenceIdeal.Gen.V m c Cert.ReferenceIdeal.main_v10 (ix1 j) := by
  have h : Cert.ReferenceIdeal.Gen.V m c Cert.ReferenceIdeal.main_v14
      = shapeCast Cert.ReferenceIdeal.S1x64 (Cert.ReferenceIdeal.Gen.V m c Cert.ReferenceIdeal.main_v10)
          Cert.ReferenceIdeal.Gen.shapeCasts_S64_S1x64 := by
    entry_read
    rfl
  change Cert.ReferenceIdeal.Gen.V m c Cert.ReferenceIdeal.main_v14 (ix2 0 j) = _
  rw [h]
  generalize Cert.ReferenceIdeal.Gen.V m c Cert.ReferenceIdeal.main_v10 = f
  pointwise

/-- The two programs compute the 64 frequencies by the same host operations. -/
theorem frq_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (j : Fin 64) :
    (Cert.ReferenceIdeal.Value.inputs m' c).frq j = (Cert.KernelIdeal.Run.inputs m c).frq j := by
  rw [kernel_frq, reference_frq]
  entry_read
  rfl

/-- On arguments that agree the two programs find the same inputs. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.inputs m' c = Cert.KernelIdeal.Run.inputs m c := by
  have e0 : (Cert.ReferenceIdeal.Value.inputs m' c).row = (Cert.KernelIdeal.Run.inputs m c).row := by
    funext r k
    change Cert.ReferenceIdeal.Gen.V m' c Cert.ReferenceIdeal.main_v11 (ix2 r k) = Cert.KernelIdeal.Gen.V m c Cert.KernelIdeal.main_v13 (ix2 r k)
    rw [Cert.ReferenceIdeal.Value.entry_row, Cert.KernelIdeal.Run.entry_row, h0]
  have e1 : (Cert.ReferenceIdeal.Value.inputs m' c).gain = (Cert.KernelIdeal.Run.inputs m c).gain := by
    funext k
    change Cert.ReferenceIdeal.Gen.V m' c Cert.ReferenceIdeal.main_v12 (ix2 0 k) = Cert.KernelIdeal.Gen.V m c Cert.KernelIdeal.main_v14 (ix2 0 k)
    rw [Cert.ReferenceIdeal.Value.entry_gain, Cert.KernelIdeal.Run.entry_gain, h1]
  have e2 : (Cert.ReferenceIdeal.Value.inputs m' c).pos = (Cert.KernelIdeal.Run.inputs m c).pos := by
    funext r
    change Cert.ReferenceIdeal.Gen.V m' c Cert.ReferenceIdeal.main_v13 (ix2 r 0) = Cert.KernelIdeal.Gen.V m c Cert.KernelIdeal.main_v15 (ix2 r 0)
    rw [Cert.ReferenceIdeal.Value.entry_pos, Cert.KernelIdeal.Run.entry_pos, h2]
  have e3 : (Cert.ReferenceIdeal.Value.inputs m' c).w = (Cert.KernelIdeal.Run.inputs m c).w := by
    funext k n
    change Cert.ReferenceIdeal.Gen.V m' c Cert.ReferenceIdeal.main_arg3 (ix2 k n) = Cert.KernelIdeal.Gen.V m c Cert.KernelIdeal.main_arg3 (ix2 k n)
    rw [Cert.ReferenceIdeal.Gen.V_main_arg3, Cert.KernelIdeal.Gen.V_main_arg3, h3]
  have e4 : (Cert.ReferenceIdeal.Value.inputs m' c).ws = (Cert.KernelIdeal.Run.inputs m c).ws := by
    funext n
    change Cert.ReferenceIdeal.Gen.V m' c Cert.ReferenceIdeal.main_v15 (ix2 0 n) = Cert.KernelIdeal.Gen.V m c Cert.KernelIdeal.main_v16 (ix2 0 n)
    rw [Cert.ReferenceIdeal.Value.entry_ws, Cert.KernelIdeal.Run.entry_ws, h4]
  have e5 : (Cert.ReferenceIdeal.Value.inputs m' c).frq = (Cert.KernelIdeal.Run.inputs m c).frq :=
    funext fun j => frq_eq m m' c j
  exact Inputs.ext e0 e1 e2 e5 e3 e4

/-- From arguments that agree the two programs end with the same five result arrays. -/
theorem algebraic : Cert.algebraic_KernelIdeal_ReferenceIdeal (hKernelIdeal := Cert.KernelIdeal.Gen.facts)
    (hReferenceIdeal := Cert.ReferenceIdeal.Gen.facts) := by
  intro m g m' g' _ hag
  have e : ∀ c, Cert.ReferenceIdeal.Value.inputs m' c = Cert.KernelIdeal.Run.inputs m c := fun c =>
    inputs_eq m m' c (hag c).1 (hag c).2.1 (hag c).2.2.1 (hag c).2.2.2.1 (hag c).2.2.2.2
  refine ⟨fun c => (Cert.KernelIdeal.Run.inputs m c).q, fun c => (Cert.KernelIdeal.Run.inputs m c).k,
    fun c => (Cert.KernelIdeal.Run.inputs m c).v, fun c => (Cert.KernelIdeal.Run.inputs m c).codes,
    fun c => (Cert.KernelIdeal.Run.inputs m c).scale, Cert.KernelIdeal.Run.run_value m g, ?_⟩
  refine (θ_run Cert.ReferenceIdeal.defs _ _).mono (fun _ h c => ?_) (Cert.ReferenceIdeal.Value.run_value m' g')
  obtain ⟨a0, a1, a2, a3, a4, a5⟩ := h c
  exact ⟨a0.trans (congrArg Inputs.q (e c)), a1.trans (congrArg Inputs.k (e c)), a2.trans (congrArg Inputs.v (e c)),
    a3.trans (congrArg Inputs.codes (e c)), a4.trans (congrArg Inputs.scale (e c)), a5⟩

end Cert.Proof

end
-- ==== Proof.lean ====
/- The proof of the certificate's claim: the three frames from the three runs, the two facts about pairs of bf16
   halves in a 32-bit word that the idealization of the kernel rests on, and the equality of the five results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.KernelIdealRun
public import proofs.«01_k».proof.Proof.Algebraic
public import Idealize.ShloMosaic.Lib.Bf16Pair
public import Idealize.ShloMosaic.Adequacy
public import Idealize.ShloMosaic.Init

@[expose] public section

noncomputable section

namespace Cert.Proof

open Idealize.ShloMosaic Idealize.SL.Sem

/-- The whole claim. -/
theorem claim : Cert.Claim :=
  ⟨Cert.Kernel.Gen.facts, Cert.KernelIdeal.Gen.facts, Cert.ReferenceIdeal.Gen.facts,
    fun m ρ _ => Cert.Kernel.Run.frame m ρ,
    fun m ρ _ => Cert.KernelIdeal.Run.frame m ρ,
    fun m ρ _ => Cert.ReferenceIdeal.Gen.frame m ρ,
    ⟨IdealRules.bf16_pair.packStatement _, IdealRules.bf16_pair.statement _ _⟩, algebraic⟩

end Cert.Proof

end
